-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xC7C35000#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S15x8192x512 : Shape := ⟨3, ![15, 8192, 512]⟩
abbrev S8192x512 : Shape := ⟨2, ![8192, 512]⟩
abbrev S8192x15 : Shape := ⟨2, ![8192, 15]⟩
abbrev S8192 : Shape := ⟨1, ![8192]⟩
abbrev S512x1 : Shape := ⟨2, ![512, 1]⟩
abbrev S1 : Shape := ⟨1, ![1]⟩
abbrev S512x20 : Shape := ⟨2, ![512, 20]⟩
abbrev S20 : Shape := ⟨1, ![20]⟩
abbrev S8192x20 : Shape := ⟨2, ![8192, 20]⟩
abbrev S_ : Shape := ⟨0, ![]⟩

class Facts : Prop where
  bcast_S_S8192x15 : S_.BroadcastsInDim S8192x15 (![] : Fin 0 → Fin S8192x15.rank)
  reducesTo_S8192x15_S_d0_1 : S8192x15.ReducesTo [0, 1] S_
  h_S_ : 0 < S_.numel
  bcast_S_S1 : S_.BroadcastsInDim S1 (![] : Fin 0 → Fin S1.rank)
  reducesTo_S1_S_d0 : S1.ReducesTo [0] S_
  bcast_S_S20 : S_.BroadcastsInDim S20 (![] : Fin 0 → Fin S20.rank)
  reducesTo_S20_S_d0 : S20.ReducesTo [0] S_
  bcast_S_S15x8192x512 : S_.BroadcastsInDim S15x8192x512 (![] : Fin 0 → Fin S15x8192x512.rank)
  reducesTo_S15x8192x512_S_d0_1_2 : S15x8192x512.ReducesTo [0, 1, 2] S_
  bcast_S_S512x20 : S_.BroadcastsInDim S512x20 (![] : Fin 0 → Fin S512x20.rank)
  reducesTo_S512x20_S_d0_1 : S512x20.ReducesTo [0, 1] S_
  bcast_S_S8192x20 : S_.BroadcastsInDim S8192x20 (![] : Fin 0 → Fin S8192x20.rank)
  reducesTo_S8192x20_S_d0_1 : S8192x20.ReducesTo [0, 1] S_

variable [Facts]

def fn_part1 {F : FTy → Type} [FloatOps F] (main_arg7 : FVec F S512x20 .f32) (main_arg10 : FVec F S8192x20 .f32) (main_v15 : IVec S_ 1) : IVec S_ 1 :=
  let main_v16 : FVec F S512x20 .f32 := Host.absf main_arg7
  let main_cst_6 : FVec F S_ .f32 := constant S_ .f32 0x7F800000#32
  let main_v17 : FVec F S512x20 .f32 := broadcastInDim S512x20 ![] bcast_S_S512x20 main_cst_6
  let main_v18 : IVec S512x20 1 := cmpf .olt main_v16 main_v17
  let main_c_7 : IVec S_ 1 := constantI S_ 1 1#1
  let main_v19 : IVec S_ 1 := (fun x v => Host.reduce IntOp.andi x v reducesTo_S512x20_S_d0_1 h_S_) main_v18 main_c_7
  let main_v20 : IVec S_ 1 := andi main_v15 main_v19
  let main_cst_8 : FVec F S_ .f32 := constant S_ .f32 0xFF800000#32
  let main_v21 : FVec F S8192x20 .f32 := broadcastInDim S8192x20 ![] bcast_S_S8192x20 main_cst_8
  let main_v22 : IVec S8192x20 1 := cmpf .ogt main_arg10 main_v21
  let main_c_9 : IVec S_ 1 := constantI S_ 1 1#1
  let main_v23 : IVec S_ 1 := (fun x v => Host.reduce IntOp.andi x v reducesTo_S8192x20_S_d0_1 h_S_) main_v22 main_c_9
  let main_v24 : IVec S_ 1 := andi main_v20 main_v23
  main_v24

def fn {F : FTy → Type} [FloatOps F] (main_arg0 : FVec F S15x8192x512 .f32) (main_arg1 : FVec F S8192x512 .f32) (main_arg2 : IVec S8192x15 32) (main_arg3 : IVec S8192 32) (main_arg4 : IVec S8192 32) (main_arg5 : FVec F S512x1 .f32) (main_arg6 : FVec F S1 .f32) (main_arg7 : FVec F S512x20 .f32) (main_arg8 : FVec F S20 .f32) (main_arg9 : FVec F S8192x15 .f32) (main_arg10 : FVec F S8192x20 .f32) : IVec S_ 1 :=
  let main_c : IVec S_ 32 := constantI S_ 32 1#32
  let main_v0 : IVec S8192x15 32 := broadcastInDim S8192x15 ![] bcast_S_S8192x15 main_c
  let main_v1 : IVec S8192x15 1 := cmpi .sge main_arg2 main_v0
  let main_c_0 : IVec S_ 1 := constantI S_ 1 1#1
  let main_v2 : IVec S_ 1 := (fun x v => Host.reduce IntOp.andi x v reducesTo_S8192x15_S_d0_1 h_S_) main_v1 main_c_0
  let main_cst : FVec F S_ .f32 := constant S_ .f32 0x00000000#32
  let main_v3 : FVec F S1 .f32 := broadcastInDim S1 ![] bcast_S_S1 main_cst
  let main_v4 : IVec S1 1 := cmpf .oeq main_arg6 main_v3
  let main_c_1 : IVec S_ 1 := constantI S_ 1 1#1
  let main_v5 : IVec S_ 1 := (fun x v => Host.reduce IntOp.andi x v reducesTo_S1_S_d0 h_S_) main_v4 main_c_1
  let main_v6 : IVec S_ 1 := andi main_v2 main_v5
  let main_cst_2 : FVec F S_ .f32 := constant S_ .f32 0x00000000#32
  let main_v7 : FVec F S20 .f32 := broadcastInDim S20 ![] bcast_S_S20 main_cst_2
  let main_v8 : IVec S20 1 := cmpf .oeq main_arg8 main_v7
  let main_c_3 : IVec S_ 1 := constantI S_ 1 1#1
  let main_v9 : IVec S_ 1 := (fun x v => Host.reduce IntOp.andi x v reducesTo_S20_S_d0 h_S_) main_v8 main_c_3
  let main_v10 : IVec S_ 1 := andi main_v6 main_v9
  let main_v11 : FVec F S15x8192x512 .f32 := Host.absf main_arg0
  let main_cst_4 : FVec F S_ .f32 := constant S_ .f32 0x7F800000#32
  let main_v12 : FVec F S15x8192x512 .f32 := broadcastInDim S15x8192x512 ![] bcast_S_S15x8192x512 main_cst_4
  let main_v13 : IVec S15x8192x512 1 := cmpf .olt main_v11 main_v12
  let main_c_5 : IVec S_ 1 := constantI S_ 1 1#1
  let main_v14 : IVec S_ 1 := (fun x v => Host.reduce IntOp.andi x v reducesTo_S15x8192x512_S_d0_1_2 h_S_) main_v13 main_c_5
  let main_v15 : IVec S_ 1 := andi main_v10 main_v14
  fn_part1 (F := F) main_arg7 main_arg10 main_v15
-- ==== Kernel.lean ====
abbrev S15x8192x512 : Shape := ⟨3, ![15, 8192, 512]⟩
abbrev S8192x512 : Shape := ⟨2, ![8192, 512]⟩
abbrev S8192x15 : Shape := ⟨2, ![8192, 15]⟩
abbrev S8192 : Shape := ⟨1, ![8192]⟩
abbrev S512x1 : Shape := ⟨2, ![512, 1]⟩
abbrev S1 : Shape := ⟨1, ![1]⟩
abbrev S512x20 : Shape := ⟨2, ![512, 20]⟩
abbrev S20 : Shape := ⟨1, ![20]⟩
abbrev S8192x20 : Shape := ⟨2, ![8192, 20]⟩
abbrev S_ : Shape := ⟨0, ![]⟩
abbrev S8192x32 : Shape := ⟨2, ![8192, 32]⟩
abbrev S8192x2 : Shape := ⟨2, ![8192, 2]⟩
abbrev S15x512x512 : Shape := ⟨3, ![15, 512, 512]⟩
abbrev S512x15 : Shape := ⟨2, ![512, 15]⟩
abbrev S512 : Shape := ⟨1, ![512]⟩
abbrev S512x32 : Shape := ⟨2, ![512, 32]⟩
abbrev S512x2 : Shape := ⟨2, ![512, 2]⟩
abbrev S512x107 : Shape := ⟨2, ![512, 107]⟩
abbrev S512x128 : Shape := ⟨2, ![512, 128]⟩
abbrev S7680x512 : Shape := ⟨2, ![7680, 512]⟩
abbrev S7680x128 : Shape := ⟨2, ![7680, 128]⟩
abbrev S7680x1 : Shape := ⟨2, ![7680, 1]⟩
abbrev S15x512 : Shape := ⟨2, ![15, 512]⟩
abbrev S7680x32 : Shape := ⟨2, ![7680, 32]⟩
abbrev S15x512x32 : Shape := ⟨3, ![15, 512, 32]⟩
abbrev S1x512x32 : Shape := ⟨3, ![1, 512, 32]⟩

abbrev nBuf : Space → Nat
  | .hbm => 16
  | .vmem => 16
  | .smem => 0
  | _ => 0

abbrev bufTy : (tb : Table) → Fin (tcTables nBuf tb) → BufTy
  | .hbm, ⟨0, _⟩ => ⟨S15x8192x512, .f32⟩
  | .hbm, ⟨1, _⟩ => ⟨S8192x512, .f32⟩
  | .hbm, ⟨2, _⟩ => ⟨S8192x15, .i32⟩
  | .hbm, ⟨3, _⟩ => ⟨S8192, .i32⟩
  | .hbm, ⟨4, _⟩ => ⟨S8192, .i32⟩
  | .hbm, ⟨5, _⟩ => ⟨S512x1, .f32⟩
  | .hbm, ⟨6, _⟩ => ⟨S1, .f32⟩
  | .hbm, ⟨7, _⟩ => ⟨S512x20, .f32⟩
  | .hbm, ⟨8, _⟩ => ⟨S20, .f32⟩
  | .hbm, ⟨9, _⟩ => ⟨S8192x15, .f32⟩
  | .hbm, ⟨10, _⟩ => ⟨S8192x20, .f32⟩
  | .hbm, ⟨11, _⟩ => ⟨S_, .f32⟩
  | .hbm, ⟨12, _⟩ => ⟨S_, .f32⟩
  | .hbm, ⟨13, _⟩ => ⟨S8192x32, .f32⟩
  | .hbm, ⟨14, _⟩ => ⟨S8192x2, .i32⟩
  | .hbm, ⟨15, _⟩ => ⟨S8192, .f32⟩
  | .local _ .vmem, ⟨0, _⟩ => ⟨S15x512x512, .f32⟩
  | .local _ .vmem, ⟨1, _⟩ => ⟨S15x512x512, .f32⟩
  | .local _ .vmem, ⟨2, _⟩ => ⟨S512x15, .i32⟩
  | .local _ .vmem, ⟨3, _⟩ => ⟨S512x15, .i32⟩
  | .local _ .vmem, ⟨4, _⟩ => ⟨S512, .i32⟩
  | .local _ .vmem, ⟨5, _⟩ => ⟨S512, .i32⟩
  | .local _ .vmem, ⟨6, _⟩ => ⟨S512x15, .f32⟩
  | .local _ .vmem, ⟨7, _⟩ => ⟨S512x15, .f32⟩
  | .local _ .vmem, ⟨8, _⟩ => ⟨S512x32, .f32⟩
  | .local _ .vmem, ⟨9, _⟩ => ⟨S512x32, .f32⟩
  | .local _ .vmem, ⟨10, _⟩ => ⟨S512x1, .f32⟩
  | .local _ .vmem, ⟨11, _⟩ => ⟨S512x20, .f32⟩
  | .local _ .vmem, ⟨12, _⟩ => ⟨S512x2, .i32⟩
  | .local _ .vmem, ⟨13, _⟩ => ⟨S512x2, .i32⟩
  | .local _ .vmem, ⟨14, _⟩ => ⟨S512, .f32⟩
  | .local _ .vmem, ⟨15, _⟩ => ⟨S512, .f32⟩
  | _, _ => ⟨S15x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_call0_v0 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S15x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x15 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x15 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S15x8192x512 : Shape := ⟨3, ![15, 8192, 512]⟩
abbrev S8192x512 : Shape := ⟨2, ![8192, 512]⟩
abbrev S8192x15 : Shape := ⟨2, ![8192, 15]⟩
abbrev S8192 : Shape := ⟨1, ![8192]⟩
abbrev S512x1 : Shape := ⟨2, ![512, 1]⟩
abbrev S1 : Shape := ⟨1, ![1]⟩
abbrev S512x20 : Shape := ⟨2, ![512, 20]⟩
abbrev S20 : Shape := ⟨1, ![20]⟩
abbrev S8192x20 : Shape := ⟨2, ![8192, 20]⟩
abbrev S15x8192x1 : Shape := ⟨3, ![15, 8192, 1]⟩
abbrev S1x1x1 : Shape := ⟨3, ![1, 1, 1]⟩
abbrev S15x8192 : Shape := ⟨2, ![15, 8192]⟩
abbrev S15 : Shape := ⟨1, ![15]⟩
abbrev S1x15 : Shape := ⟨2, ![1, 15]⟩
abbrev S8192x1 : Shape := ⟨2, ![8192, 1]⟩
abbrev S_ : Shape := ⟨0, ![]⟩
abbrev S8192x1x1 : Shape := ⟨3, ![8192, 1, 1]⟩
abbrev S8192x2 : Shape := ⟨2, ![8192, 2]⟩
abbrev S1x20 : Shape := ⟨2, ![1, 20]⟩

abbrev nBuf : Space → Nat
  | .hbm => 195
  | .vmem => 0
  | .smem => 0
  | _ => 0

abbrev hbmTy0_0 (i : Nat) : BufTy := match i % 128 with
  | 0 => ⟨S15x8192x512, .f32⟩
  | 1 => ⟨S8192x512, .f32⟩
  | 2 => ⟨S8192x15, .i32⟩
  | 3 => ⟨S8192, .i32⟩
  | 4 => ⟨S8192, .i32⟩
  | 5 => ⟨S512x1, .f32⟩
  | 6 => ⟨S1, .f32⟩
  | 7 => ⟨S512x20, .f32⟩
  | 8 => ⟨S20, .f32⟩
  | 9 => ⟨S8192x15, .f32⟩
  | 10 => ⟨S8192x20, .f32⟩
  | 11 => ⟨S15x8192x1, .f32⟩
  | 12 => ⟨S1x1x1, .f32⟩
  | 13 => ⟨S15x8192x1, .f32⟩
  | 14 => ⟨S15x8192x1, .f32⟩
  | 15 => ⟨S15x8192, .f32⟩
  | 16 => ⟨S8192x15, .f32⟩
  | 17 => ⟨S15, .i32⟩
  | 18 => ⟨S1x15, .i32⟩
  | 19 => ⟨S8192x1, .i32⟩
  | 20 => ⟨S8192x15, .i32⟩
  | 21 => ⟨S8192x15, .i32⟩
  | 22 => ⟨S8192x15, .i1⟩
  | 23 => ⟨S_, .f32⟩
  | 24 => ⟨S_, .f32⟩
  | 25 => ⟨S8192x15, .f32⟩
  | 26 => ⟨S8192x15, .f32⟩
  | 27 => ⟨S8192x15, .f32⟩
  | 28 => ⟨S8192x15, .i32⟩
  | 29 => ⟨S_, .f32⟩
  | 30 => ⟨S_, .i32⟩
  | 31 => ⟨S8192, .f32⟩
  | 32 => ⟨S8192, .i32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x15, .f32⟩
  | 40 => ⟨S8192x15, .f32⟩
  | 41 => ⟨S8192x15, .f32⟩
  | 42 => ⟨S_, .f32⟩
  | 43 => ⟨S8192, .f32⟩
  | 44 => ⟨S8192x1, .f32⟩
  | 45 => ⟨S8192x1, .f32⟩
  | 46 => ⟨S8192x15, .f32⟩
  | 47 => ⟨S8192x15, .f32⟩
  | 48 => ⟨S8192x1, .i32⟩
  | 49 => ⟨S_, .i32⟩
  | 50 => ⟨S8192x1, .i32⟩
  | 51 => ⟨S8192x1, .i1⟩
  | 52 => ⟨S_, .i32⟩
  | 53 => ⟨S8192x1, .i32⟩
  | 54 => ⟨S8192x1, .i32⟩
  | 55 => ⟨S8192x1, .i32⟩
  | 56 => ⟨S8192x1x1, .i32⟩
  | 57 => ⟨S1, .i32⟩
  | 58 => ⟨S_, .i32⟩
  | 59 => ⟨S8192x1x1, .i32⟩
  | 60 => ⟨S8192x1x1, .i1⟩
  | 61 => ⟨S1x1x1, .i32⟩
  | 62 => ⟨S8192x1x1, .i32⟩
  | 63 => ⟨S8192x1x1, .i1⟩
  | 64 => ⟨S8192x1x1, .i1⟩
  | 65 => ⟨S_, .i1⟩
  | 66 => ⟨S8192x1, .i1⟩
  | 67 => ⟨S8192x1, .f32⟩
  | 68 => ⟨S_, .f32⟩
  | 69 => ⟨S8192x1, .f32⟩
  | 70 => ⟨S8192x1, .f32⟩
  | 71 => ⟨S8192, .f32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192x1, .i32⟩
  | 89 => ⟨S8192x2, .i32⟩
  | 90 => ⟨S8192x512, .f32⟩
  | 91 => ⟨S8192x20, .f32⟩
  | 92 => ⟨S1x20, .f32⟩
  | 93 => ⟨S8192x20, .f32⟩
  | 94 => ⟨S8192x20, .f32⟩
  | 95 => ⟨S8192x1, .i32⟩
  | 96 => ⟨S_, .i32⟩
  | 97 => ⟨S8192x1, .i32⟩
  | 98 => ⟨S8192x1, .i1⟩
  | 99 => ⟨S_, .i32⟩
  | 100 => ⟨S8192x1, .i32⟩
  | 101 => ⟨S8192x1, .i32⟩
  | 102 => ⟨S8192x1, .i32⟩
  | 103 => ⟨S8192x1x1, .i32⟩
  | 104 => ⟨S1, .i32⟩
  | 105 => ⟨S_, .i32⟩
  | 106 => ⟨S8192x1x1, .i32⟩
  | 107 => ⟨S8192x1x1, .i1⟩
  | 108 => ⟨S1x1x1, .i32⟩
  | 109 => ⟨S8192x1x1, .i32⟩
  | 110 => ⟨S8192x1x1, .i1⟩
  | 111 => ⟨S8192x1x1, .i1⟩
  | 112 => ⟨S_, .i1⟩
  | 113 => ⟨S8192x1, .i1⟩
  | 114 => ⟨S8192x1, .i32⟩
  | 115 => ⟨S_, .i32⟩
  | 116 => ⟨S8192x1, .i32⟩
  | 117 => ⟨S8192x1, .i32⟩
  | 118 => ⟨S8192, .i32⟩
  | 119 => ⟨S_, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S15x8192x512, .f32⟩

abbrev hbmTy0_1 (i : Nat) : BufTy := match i % 128 with
  | 0 => ⟨S8192, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x1, .i32⟩
  | 11 => ⟨S8192x2, .i32⟩
  | 12 => ⟨S_, .f32⟩
  | 13 => ⟨S8192, .f32⟩
  | 14 => ⟨S8192x20, .f32⟩
  | 15 => ⟨S8192x20, .f32⟩
  | 16 => ⟨S8192x20, .i32⟩
  | 17 => ⟨S_, .f32⟩
  | 18 => ⟨S_, .i32⟩
  | 19 => ⟨S8192, .f32⟩
  | 20 => ⟨S8192, .i32⟩
  | 21 => ⟨S_, .f32⟩
  | 22 => ⟨S8192, .f32⟩
  | 23 => ⟨S_, .f32⟩
  | 24 => ⟨S8192, .f32⟩
  | 25 => ⟨S8192, .f32⟩
  | 26 => ⟨S8192x1, .f32⟩
  | 27 => ⟨S8192x20, .f32⟩
  | 28 => ⟨S8192x20, .f32⟩
  | 29 => ⟨S8192x20, .f32⟩
  | 30 => ⟨S_, .f32⟩
  | 31 => ⟨S8192, .f32⟩
  | 32 => ⟨S8192x1, .f32⟩
  | 33 => ⟨S8192x1, .f32⟩
  | 34 => ⟨S8192x20, .f32⟩
  | 35 => ⟨S8192x20, .f32⟩
  | 36 => ⟨S8192x1, .i32⟩
  | 37 => ⟨S_, .i32⟩
  | 38 => ⟨S8192x1, .i32⟩
  | 39 => ⟨S8192x1, .i1⟩
  | 40 => ⟨S_, .i32⟩
  | 41 => ⟨S8192x1, .i32⟩
  | 42 => ⟨S8192x1, .i32⟩
  | 43 => ⟨S8192x1, .i32⟩
  | 44 => ⟨S8192x1x1, .i32⟩
  | 45 => ⟨S1, .i32⟩
  | 46 => ⟨S_, .i32⟩
  | 47 => ⟨S8192x1x1, .i32⟩
  | 48 => ⟨S8192x1x1, .i1⟩
  | 49 => ⟨S1x1x1, .i32⟩
  | 50 => ⟨S8192x1x1, .i32⟩
  | 51 => ⟨S8192x1x1, .i1⟩
  | 52 => ⟨S8192x1x1, .i1⟩
  | 53 => ⟨S_, .i1⟩
  | 54 => ⟨S8192x1, .i1⟩
  | 55 => ⟨S8192x1, .f32⟩
  | 56 => ⟨S_, .f32⟩
  | 57 => ⟨S8192x1, .f32⟩
  | 58 => ⟨S8192x1, .f32⟩
  | 59 => ⟨S8192, .f32⟩
  | 60 => ⟨S_, .i32⟩
  | 61 => ⟨S8192, .i32⟩
  | 62 => ⟨S8192, .i32⟩
  | 63 => ⟨S8192x1, .i32⟩
  | 64 => ⟨S8192x1, .i32⟩
  | 65 => ⟨S8192x2, .i32⟩
  | 66 => ⟨S8192, .f32⟩
  | _ => ⟨S15x8192x512, .f32⟩

abbrev hbmTy (i : Nat) : BufTy := match i / 128 with
  | 0 => hbmTy0_0 i
  | 1 => hbmTy0_1 i
  | _ => ⟨S15x8192x512, .f32⟩

abbrev bufTy : (tb : Table) → Fin (tcTables nBuf tb) → BufTy
  | .hbm, ⟨i, _⟩ => hbmTy i
  | _, _ => ⟨S15x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_call1_cst : Ref sig .tc := ⟨.hbm, 29, rfl⟩
abbrev main_call1_c : Ref sig .tc := ⟨.hbm, 30, rfl⟩
abbrev main_call1_v1_0 : Ref sig .tc := ⟨.hbm, 31, rfl⟩
abbrev main_v14 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v15 : Ref sig .tc := ⟨.hbm, 47, rfl⟩
abbrev main_v16 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c : Ref sig .tc := ⟨.hbm, 73, rfl⟩
abbrev main_v20 : Ref sig .tc := ⟨.hbm, 74, rfl⟩
abbrev main_v21 : Ref sig .tc := ⟨.hbm, 75, rfl⟩
abbrev main_c_0 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_c_1 : Ref sig .tc := ⟨.hbm, 80, rfl⟩
abbrev main_v25 : Ref sig .tc := ⟨.hbm, 81, rfl⟩
abbrev main_v26 : Ref sig .tc := ⟨.hbm, 82, rfl⟩
abbrev main_c_2 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_c_4 : Ref sig .tc := ⟨.hbm, 115, rfl⟩
abbrev main_call4_v14 : Ref sig .tc := ⟨.hbm, 116, rfl⟩
abbrev main_v39 : Ref sig .tc := ⟨.hbm, 117, rfl⟩
abbrev main_v40 : Ref sig .tc := ⟨.hbm, 118, rfl⟩
abbrev main_c_3 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_c_4 : Ref sig .tc := ⟨.hbm, 123, rfl⟩
abbrev main_v44 : Ref sig .tc := ⟨.hbm, 124, rfl⟩
abbrev main_v45 : Ref sig .tc := ⟨.hbm, 125, rfl⟩
abbrev main_c_5 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_c_6 : Ref sig .tc := ⟨.hbm, 130, rfl⟩
abbrev main_v49 : Ref sig .tc := ⟨.hbm, 131, rfl⟩
abbrev main_v50 : Ref sig .tc := ⟨.hbm, 132, rfl⟩
abbrev main_c_7 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_cst_8 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_call5_v0 : Ref sig .tc := ⟨.hbm, 144, rfl⟩
abbrev main_call5_cst : Ref sig .tc := ⟨.hbm, 145, rfl⟩
abbrev main_call5_c : Ref sig .tc := ⟨.hbm, 146, rfl⟩
abbrev main_call5_v1_0 : Ref sig .tc := ⟨.hbm, 147, rfl⟩
abbrev main_v60 : Ref sig .tc := ⟨.hbm, 148, rfl⟩
abbrev main_call6_cst : Ref sig .tc := ⟨.hbm, 149, rfl⟩
abbrev main_call6_v0 : Ref sig .tc := ⟨.hbm, 150, rfl⟩
abbrev main_call6_cst_0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_v6 : Ref sig .tc := ⟨.hbm, 157, rfl⟩
abbrev main_call6_cst_1 : Ref sig .tc := ⟨.hbm, 158, rfl⟩
abbrev main_call6_v7 : Ref sig .tc := ⟨.hbm, 159, rfl⟩
abbrev main_call6_v8 : Ref sig .tc := ⟨.hbm, 160, rfl⟩
abbrev main_call6_v9 : Ref sig .tc := ⟨.hbm, 161, rfl⟩
abbrev main_call6_v10 : Ref sig .tc := ⟨.hbm, 162, rfl⟩
abbrev main_v61 : Ref sig .tc := ⟨.hbm, 163, rfl⟩
abbrev main_v62 : Ref sig .tc := ⟨.hbm, 164, rfl⟩
abbrev main_call7_c : Ref sig .tc := ⟨.hbm, 165, rfl⟩
abbrev main_call7_v0 : Ref sig .tc := ⟨.hbm, 166, rfl⟩
abbrev main_call7_v1 : Ref sig .tc := ⟨.hbm, 167, rfl⟩
abbrev main_call7_c_0 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_call7_v5 : Ref sig .tc := ⟨.hbm, 172, rfl⟩
abbrev main_call7_c_1 : Ref sig .tc := ⟨.hbm, 173, rfl⟩
abbrev main_call7_c_2 : Ref sig .tc := ⟨.hbm, 174, rfl⟩
abbrev main_call7_v6 : Ref sig .tc := ⟨.hbm, 175, rfl⟩
abbrev main_call7_v7 : Ref sig .tc := ⟨.hbm, 176, rfl⟩
abbrev main_call7_v8 : Ref sig .tc := ⟨.hbm, 177, rfl⟩
abbrev main_call7_v9 : Ref sig .tc := ⟨.hbm, 178, rfl⟩
abbrev main_call7_v10 : Ref sig .tc := ⟨.hbm, 179, rfl⟩
abbrev main_call7_v11 : Ref sig .tc := ⟨.hbm, 180, rfl⟩
abbrev main_call7_c_3 : Ref sig .tc := ⟨.hbm, 181, rfl⟩
abbrev main_call7_v12 : Ref sig .tc := ⟨.hbm, 182, rfl⟩
abbrev main_call7_v13 : Ref sig .tc := ⟨.hbm, 183, rfl⟩
abbrev main_call7_cst : Ref sig .tc := ⟨.hbm, 184, rfl⟩
abbrev main_call7_v14 : Ref sig .tc := ⟨.hbm, 185, rfl⟩
abbrev main_v63 : Ref sig .tc := ⟨.hbm, 186, rfl⟩
abbrev main_v64 : Ref sig .tc := ⟨.hbm, 187, rfl⟩
abbrev main_c_9 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩
abbrev main_v70 : Ref sig .tc := ⟨.hbm, 194, rfl⟩

abbrev nD : Nat := 1
abbrev τ : Topo := Topo.v7x

variable {F : FTy → Type} [FloatOps F]
-- ==== Proof.Ref.lean ====
/- The reference's stages, each the composition of the operations that the program prints for it: the masked
   position logits, an argmax along a row, a log-softmax along a row, the entry of a row at an index, the selected
   latent rows, the amino logits, the row with the present amino masked, and the two results. -/
module

public import proofs.«01_k».proof.Proof.Gen.ReferenceIdeal
public import Idealize.ShloMosaic.PureOps.Ideal.Laws

@[expose] public section

noncomputable section

namespace Cert.Proof.Ref

open Idealize.ShloMosaic Cert.ReferenceIdeal

/-- The position logits, those at and past the length replaced by -∞. -/
def posLogits (lat : FVec Ideal S15x8192x512 .f32) (len : IVec S8192 32) (wp : FVec Ideal S512x1 .f32) (bp : FVec Ideal S1 .f32) :
    FVec Ideal S8192x15 .f32 :=
  select (cmpi .slt
      (broadcastInDim S8192x15 ![0, 1] Facts₀.bcast_S1x15_S8192x15_0_1 (broadcastInDim S1x15 ![1] Facts₀.bcast_S15_S1x15_1 (iotaInDim S15 32 0)))
      (broadcastInDim S8192x15 ![0, 1] Facts₀.bcast_S8192x1_S8192x15_0_1 (broadcastInDim S8192x1 ![0] Facts₀.bcast_S8192_S8192x1_0 len)))
    (transpose S8192x15 [1, 0] (shapeCast S15x8192
      (addf (Host.dotGeneral dot_S15x8192x512_S512x1_S15x8192x1_2_0_01_1_n_n none lat wp)
        (broadcastInDim S15x8192x1 ![0, 1, 2] Facts₀.bcast_S1x1x1_S15x8192x1_0_1_2 (broadcastInDim S1x1x1 ![2] Facts₀.bcast_S1_S1x1x1_2 bp)))
      Facts₀.shapeCasts_S15x8192x1_S15x8192) Facts₀.transposes_S15x8192_S8192x15_1_0)
    (broadcastInDim S8192x15 ![] Facts₀.bcast_S_S8192x15 (constant S_ .f32 0xFF800000#32))

/-- The argmax of each row of 15. -/
def argmax15 (x : FVec Ideal S8192x15 .f32) : IVec S8192 32 := fun j =>
  (Host.argReduce reducer_argmax_f32_i32 x (iotaInDim S8192x15 32 1) (constant S_ .f32 0xFF800000#32) (constantI S_ 32 0#32)
    Facts₀.reducesTo_S8192x15_S8192_d1 Facts₀.h_S_ j).2

/-- The argmax of each row of 20. -/
def argmax20 (x : FVec Ideal S8192x20 .f32) : IVec S8192 32 := fun j =>
  (Host.argReduce reducer_argmax_f32_i32 x (iotaInDim S8192x20 32 1) (constant S_ .f32 0xFF800000#32) (constantI S_ 32 0#32)
    Facts₀.reducesTo_S8192x20_S8192_d1 Facts₀.h_S_ j).2

/-- Each row of 15 less its maximum. -/
def shifted15 (x : FVec Ideal S8192x15 .f32) : FVec Ideal S8192x15 .f32 :=
  subf x (broadcastInDim S8192x15 ![0, 1] Facts₀.bcast_S8192x1_S8192x15_0_1 (broadcastInDim S8192x1 ![0] Facts₀.bcast_S8192_S8192x1_0
    (maximumf (broadcastInDim S8192 ![] Facts₀.bcast_S_S8192 (constant S_ .f32 0xFF800000#32))
      (Host.reduce FloatOps.maximumf x (constant S_ .f32 0xFF800000#32) Facts₀.reducesTo_S8192x15_S8192_d1 Facts₀.h_S_))))

/-- The log-softmax of each row of 15. -/
def logSoftmax15 (x : FVec Ideal S8192x15 .f32) : FVec Ideal S8192x15 .f32 :=
  subf (shifted15 x) (broadcastInDim S8192x15 ![0, 1] Facts₀.bcast_S8192x1_S8192x15_0_1
    (Host.log (broadcastInDim S8192x1 ![0] Facts₀.bcast_S8192_S8192x1_0
      (Host.reduceAdd (Host.exp (shifted15 x)) (constant S_ .f32 0x00000000#32) Facts₀.reducesTo_S8192x15_S8192_d1 Facts₀.h_S_))))

/-- Each row of 20 less its maximum. -/
def shifted20 (x : FVec Ideal S8192x20 .f32) : FVec Ideal S8192x20 .f32 :=
  subf x (broadcastInDim S8192x20 ![0, 1] Facts₀.bcast_S8192x1_S8192x20_0_1 (broadcastInDim S8192x1 ![0] Facts₀.bcast_S8192_S8192x1_0
    (maximumf (broadcastInDim S8192 ![] Facts₀.bcast_S_S8192 (constant S_ .f32 0xFF800000#32))
      (Host.reduce FloatOps.maximumf x (constant S_ .f32 0xFF800000#32) Facts₀.reducesTo_S8192x20_S8192_d1 Facts₀.h_S_))))

/-- The log-softmax of each row of 20. -/
def logSoftmax20 (x : FVec Ideal S8192x20 .f32) : FVec Ideal S8192x20 .f32 :=
  subf (shifted20 x) (broadcastInDim S8192x20 ![0, 1] Facts₀.bcast_S8192x1_S8192x20_0_1
    (Host.log (broadcastInDim S8192x1 ![0] Facts₀.bcast_S8192_S8192x1_0
      (Host.reduceAdd (Host.exp (shifted20 x)) (constant S_ .f32 0x00000000#32) Facts₀.reducesTo_S8192x20_S8192_d1 Facts₀.h_S_))))

/-- A word for every row. -/
def words (w : BitVec 32) : IVec S8192 32 := broadcastInDim S8192 ![] Facts₀.bcast_S_S8192 (constantI S_ 32 w)

/-- Each row's index, those below zero moved up by `n`. -/
def wrap (n : BitVec 32) (i : IVec S8192 32) : IVec S8192 32 := select (cmpi .slt i (words 0#32)) (addi i (words n)) i

/-- The column of each row's index. -/
def column (i : IVec S8192 32) : IVec S8192x1 32 := broadcastInDim S8192x1 ![0] Facts₀.bcast_S8192_S8192x1_0 i

/-- A word for every row, as a column. -/
def colWords (w : BitVec 32) : IVec S8192x1 32 := broadcastInDim S8192x1 ![] Facts₀.bcast_S_S8192x1 (constantI S_ 32 w)

/-- The start indices of a gather along the rows: the column of indices, those below zero moved up by `n`. -/
def starts (n : BitVec 32) (i : IVec S8192 32) : IVec S8192x1x1 32 :=
  shapeCast S8192x1x1 (select (cmpi .slt (column i) (colWords 0#32)) (addi (column i) (colWords n)) (column i)) Facts₀.shapeCasts_S8192x1_S8192x1x1

/-- Whether each row's start index lies in `[0, last]`. -/
def inside (n last : BitVec 32) (i : IVec S8192 32) : IVec S8192x1 1 :=
  Host.reduce IntOp.andi
    (andi (cmpi .sge (starts n i) (broadcastInDim S8192x1x1 ![] Facts₀.bcast_S_S8192x1x1 (constantI S_ 32 0#32)))
      (cmpi .sle (starts n i) (broadcastInDim S8192x1x1 ![0, 1, 2] Facts₀.bcast_S1x1x1_S8192x1x1_0_1_2
        (broadcastInDim S1x1x1 ![2] Facts₀.bcast_S1_S1x1x1_2 (constantI S1 32 last)))))
    (constantI S_ 1 1#1) Facts₀.reducesTo_S8192x1x1_S8192x1_d2 Facts₀.h_S_

/-- The entry of each row of 15 at the row's index. -/
def take15 (x : FVec Ideal S8192x15 .f32) (i : IVec S8192 32) : FVec Ideal S8192 .f32 :=
  shapeCast S8192 (select (inside 15#32 14#32 i)
    (Host.gather gather_S8192x15_S8192x1x1_S8192x1_n_1_0_0_1_2_11 x (starts 15#32 i))
    (broadcastInDim S8192x1 ![] Facts₀.bcast_S_S8192x1 (constant S_ .f32 0x7FC00000#32) : FVec Ideal S8192x1 .f32)) Facts₀.shapeCasts_S8192x1_S8192

/-- The word of each row of 15 at the row's index. -/
def takeWord15 (x : IVec S8192x15 32) (i : IVec S8192 32) : IVec S8192 32 :=
  shapeCast S8192 (select (inside 15#32 14#32 i)
    (Host.gather gather_S8192x15_S8192x1x1_S8192x1_n_1_0_0_1_2_11 x (starts 15#32 i))
    (broadcastInDim S8192x1 ![] Facts₀.bcast_S_S8192x1 (constantI S_ 32 2147483648#32))) Facts₀.shapeCasts_S8192x1_S8192

/-- The entry of each row of 20 at the row's index. -/
def take20 (x : FVec Ideal S8192x20 .f32) (i : IVec S8192 32) : FVec Ideal S8192 .f32 :=
  shapeCast S8192 (select (inside 20#32 19#32 i)
    (Host.gather gather_S8192x20_S8192x1x1_S8192x1_n_1_0_0_1_2_11 x (starts 20#32 i))
    (broadcastInDim S8192x1 ![] Facts₀.bcast_S_S8192x1 (constant S_ .f32 0x7FC00000#32) : FVec Ideal S8192x1 .f32)) Facts₀.shapeCasts_S8192x1_S8192

/-- Two columns side by side. -/
def sideBySide {α : Type} (a b : S8192x1.Idx → α) : S8192x2.Idx → α :=
  concatenate S8192x2 1 [⟨S8192x1, a⟩, ⟨S8192x1, b⟩] Facts₀.concatenates_S8192x1_S8192x1_S8192x2_d1

/-- Each row's two words side by side. -/
def pairs (a b : IVec S8192 32) : IVec S8192x2 32 := sideBySide (column a) (column b)

/-- The number of each row. -/
def rowNumbers : IVec S8192 32 := iotaInDim S8192 32 0

/-- Each row's latent vector at the row's position. -/
def latentRows (lat : FVec Ideal S15x8192x512 .f32) (pos : IVec S8192 32) : FVec Ideal S8192x512 .f32 :=
  Host.gather gather_S15x8192x512_S8192x2_S8192x512_1_01_n_n_01_1_11512 lat (pairs (wrap 15#32 pos) (wrap 8192#32 rowNumbers))

/-- The amino logits of the selected latent vectors. -/
def aminoLogits (lat : FVec Ideal S15x8192x512 .f32) (pos : IVec S8192 32) (wa : FVec Ideal S512x20 .f32) (ba : FVec Ideal S20 .f32) :
    FVec Ideal S8192x20 .f32 :=
  addf (Host.dotGeneral dot_S8192x512_S512x20_S8192x20_1_0_0_1_n_n none (latentRows lat pos) wa)
    (broadcastInDim S8192x20 ![0, 1] Facts₀.bcast_S1x20_S8192x20_0_1 (broadcastInDim S1x20 ![1] Facts₀.bcast_S20_S1x20_1 ba))

/-- The amino logits with -∞ at each row's present amino. -/
def maskedAmino (x : FVec Ideal S8192x20 .f32) (amino : IVec S8192 32) : FVec Ideal S8192x20 .f32 :=
  Host.scatter scatter_S8192x20_S8192x2_S8192_n_01_01_1 (fun _ b => b) x (pairs (wrap 8192#32 rowNumbers) (wrap 20#32 amino))
    (broadcastInDim S8192 ![] Facts₀.bcast_S_S8192 (constant S_ .f32 0xFF800000#32) : FVec Ideal S8192 .f32)

/-- The position drawn for each row. -/
def position (lat : FVec Ideal S15x8192x512 .f32) (len : IVec S8192 32) (wp : FVec Ideal S512x1 .f32) (bp : FVec Ideal S1 .f32)
    (g1 : FVec Ideal S8192x15 .f32) : IVec S8192 32 := argmax15 (addf g1 (posLogits lat len wp bp))

/-- The amino row that the second draw is made from. -/
def aminoRow (lat : FVec Ideal S15x8192x512 .f32) (pep : IVec S8192x15 32) (len : IVec S8192 32) (wp : FVec Ideal S512x1 .f32)
    (bp : FVec Ideal S1 .f32) (wa : FVec Ideal S512x20 .f32) (ba : FVec Ideal S20 .f32) (g1 : FVec Ideal S8192x15 .f32) :
    FVec Ideal S8192x20 .f32 :=
  maskedAmino (aminoLogits lat (position lat len wp bp g1) wa ba) (subi (takeWord15 pep (position lat len wp bp g1)) (words 1#32))

/-- The amino drawn for each row, counted from zero. -/
def amino (lat : FVec Ideal S15x8192x512 .f32) (pep : IVec S8192x15 32) (len : IVec S8192 32) (wp : FVec Ideal S512x1 .f32)
    (bp : FVec Ideal S1 .f32) (wa : FVec Ideal S512x20 .f32) (ba : FVec Ideal S20 .f32) (g1 : FVec Ideal S8192x15 .f32)
    (g2 : FVec Ideal S8192x20 .f32) : IVec S8192 32 := argmax20 (addf g2 (aminoRow lat pep len wp bp wa ba g1))

/-- The first result: the drawn position and amino of each row. -/
def action (lat : FVec Ideal S15x8192x512 .f32) (pep : IVec S8192x15 32) (len : IVec S8192 32) (wp : FVec Ideal S512x1 .f32)
    (bp : FVec Ideal S1 .f32) (wa : FVec Ideal S512x20 .f32) (ba : FVec Ideal S20 .f32) (g1 : FVec Ideal S8192x15 .f32)
    (g2 : FVec Ideal S8192x20 .f32) : IVec S8192x2 32 :=
  pairs (position lat len wp bp g1) (addi (amino lat pep len wp bp wa ba g1 g2) (words 1#32))

/-- The second result: the log-probability of each row's draws. -/
def logProb (lat : FVec Ideal S15x8192x512 .f32) (pep : IVec S8192x15 32) (len : IVec S8192 32) (wp : FVec Ideal S512x1 .f32)
    (bp : FVec Ideal S1 .f32) (wa : FVec Ideal S512x20 .f32) (ba : FVec Ideal S20 .f32) (g1 : FVec Ideal S8192x15 .f32)
    (g2 : FVec Ideal S8192x20 .f32) : FVec Ideal S8192 .f32 :=
  addf (take15 (logSoftmax15 (posLogits lat len wp bp)) (position lat len wp bp g1))
    (take20 (logSoftmax20 (aminoRow lat pep len wp bp wa ba g1)) (amino lat pep len wp bp wa ba g1 g2))

end Cert.Proof.Ref

end
-- ==== Proof.RefRun.lean ====
/- The run of the reference: its two result arrays end holding the composed stages of its arguments. -/
module

public import proofs.«01_k».proof.Defs
public import proofs.«01_k».proof.Proof.Ref
public import Idealize.ShloMosaic.Lib.Claim
public import Idealize.ShloMosaic.Lib.StableHlo.ReadAt

@[expose] public section

noncomputable section

namespace Cert.Proof.Ref

open Idealize.ShloMosaic Idealize.SL.Sem Cert.ReferenceIdeal

/-- The concatenation of two columns, named. -/
theorem sideBySide_eq {α : Type} (a b : S8192x1.Idx → α) (h : _) :
    concatenate S8192x2 1 [⟨S8192x1, a⟩, ⟨S8192x1, b⟩] h = sideBySide a b := rfl

attribute [local irreducible] Host.argReduce Host.gather Host.scatter

set_option maxHeartbeats 16000000 in
set_option maxRecDepth 100000 in
/-- Every run of the reference ends with its two results at the composed stages of the arguments, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v69) = action (m (c.tc.loc main_arg0)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10))
        ∧ r.2.mem ((c.tc : Thread nD τ).loc main_v70) = logProb (m (c.tc.loc main_arg0)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10))
        ∧ r.2.mem ((c.tc : Thread nD τ).loc main_arg0) = m (c.tc.loc main_arg0)
        ∧ r.2.mem ((c.tc : Thread nD τ).loc main_arg1) = m (c.tc.loc main_arg1)
        ∧ r.2.mem ((c.tc : Thread nD τ).loc main_arg2) = m (c.tc.loc main_arg2)
        ∧ r.2.mem ((c.tc : Thread nD τ).loc main_arg3) = m (c.tc.loc main_arg3)
        ∧ r.2.mem ((c.tc : Thread nD τ).loc main_arg4) = m (c.tc.loc main_arg4)
        ∧ r.2.mem ((c.tc : Thread nD τ).loc main_arg5) = m (c.tc.loc main_arg5)
        ∧ r.2.mem ((c.tc : Thread nD τ).loc main_arg6) = m (c.tc.loc main_arg6)
        ∧ r.2.mem ((c.tc : Thread nD τ).loc main_arg7) = m (c.tc.loc main_arg7)
        ∧ r.2.mem ((c.tc : Thread nD τ).loc main_arg8) = m (c.tc.loc main_arg8)
        ∧ r.2.mem ((c.tc : Thread nD τ).loc main_arg9) = m (c.tc.loc main_arg9)
        ∧ r.2.mem ((c.tc : Thread nD τ).loc main_arg10) = m (c.tc.loc main_arg10)) := by
  refine Idealize.ShloMosaic.θ_run_mono (Idealize.ShloMosaic.StableHlo.run_hlo _ _ (by
    unfold main main_part0 main_part1 fn_where.body fn_argmax.body fn_log_softmax.body fn_take_along_axis.body
      fn_take_along_axis_0.body fn_argmax_1.body fn_log_softmax_2.body fn_take_along_axis_3.body
    hlo_seq) (by decide) (by decide) (by simp)
    (by intro _ h; (repeat (cases h with | head => rfl | tail _ h => ?_)); exact nomatch h) _ _) ?_
  intro r hr c
  refine ⟨?_, ?_, ?_, ?_, ?_, ?_, ?_, ?_, ?_, ?_, ?_, ?_, ?_⟩
  · rw [hr c]; after_reads_simp [sideBySide_eq]
    simp -implicitDefEqProofs only [StableHlo.TRef.toBuf, StableHlo.TRef.ofBuf, cast_cast, cast_eq]
    clean_types
    rfl
  · rw [hr c]; after_reads_simp [sideBySide_eq]
    simp -implicitDefEqProofs only [StableHlo.TRef.toBuf, StableHlo.TRef.ofBuf, cast_cast, cast_eq]
    clean_types
    rfl
  all_goals (rw [hr c]; after_reads_simp)

/-- Every run of the reference ends with the arguments as launched and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m (c.tc.loc main_arg0) ∧
      r.2.mem ((c.tc : Thread nD τ).loc main_arg1) = m (c.tc.loc main_arg1) ∧
      r.2.mem ((c.tc : Thread nD τ).loc main_arg2) = m (c.tc.loc main_arg2) ∧
      r.2.mem ((c.tc : Thread nD τ).loc main_arg3) = m (c.tc.loc main_arg3) ∧
      r.2.mem ((c.tc : Thread nD τ).loc main_arg4) = m (c.tc.loc main_arg4) ∧
      r.2.mem ((c.tc : Thread nD τ).loc main_arg5) = m (c.tc.loc main_arg5) ∧
      r.2.mem ((c.tc : Thread nD τ).loc main_arg6) = m (c.tc.loc main_arg6) ∧
      r.2.mem ((c.tc : Thread nD τ).loc main_arg7) = m (c.tc.loc main_arg7) ∧
      r.2.mem ((c.tc : Thread nD τ).loc main_arg8) = m (c.tc.loc main_arg8) ∧
      r.2.mem ((c.tc : Thread nD τ).loc main_arg9) = m (c.tc.loc main_arg9) ∧
      r.2.mem ((c.tc : Thread nD τ).loc main_arg10) = m (c.tc.loc main_arg10))
      ∧ r.2.sem = fun _ => 0 :=
  (θ_run defs _ _).mono (fun r h => ⟨fun c => (h c).2.2, Idealize.ShloMosaic.sem_eq_zero_of_no_sems (by decide) r.2⟩) (run m ρ)

end Cert.Proof.Ref

end
-- ==== Proof.Row.lean ====
/- The mathematics of one row: the first index of a row's largest entry, as the host's fold over (value, index) pairs and as the
   smallest index at the maximum; the log-softmax; a sum that one index selects; and a row of 20 laid in columns 1 … 20 of a row
   of 32 whose other columns hold -∞. -/
module

public import Idealize.ShloMosaic.PureOps.Ideal.Laws
public import Idealize.ShloMosaic.PureOps.Reduce

@[expose] public section

noncomputable section

namespace Cert.Proof.Row

open Idealize.ShloMosaic

variable {n : ℕ}

/-! ### The first index of the largest entry -/

/-- `i` is the first index at which `x` is largest. -/
def IsFirst (x : Fin n → EReal) (i : Fin n) : Prop := ∀ j, x j ≤ x i ∧ (x j = x i → i ≤ j)

theorem IsFirst.unique {x : Fin n → EReal} {i j : Fin n} (hi : IsFirst x i) (hj : IsFirst x j) : i = j :=
  have e : x i = x j := le_antisymm (hj i).1 (hi j).1
  le_antisymm ((hi j).2 e.symm) ((hj i).2 e)

/-- The largest entry of a row, -∞ of an empty one. -/
def top (x : Fin n → EReal) : EReal := Finset.univ.sup x

theorem IsFirst.top_eq {x : Fin n → EReal} {i : Fin n} (h : IsFirst x i) : top x = x i :=
  le_antisymm (Finset.sup_le fun j _ => (h j).1) (Finset.le_sup (Finset.mem_univ i))

/-- The maximum that a reduction folds from -∞. -/
theorem fold_max (x : Fin n → EReal) : Finset.univ.fold max ⊥ x = top x := rfl

/-- The pattern of -∞. -/
theorem ofBits_bot : Ideal.ofBits .f32 0xFF800000#32 = ⊥ := by
  simp [Ideal.ofBits, Ideal.ieee]

theorem toInt_ofNat {k : ℕ} (h : k < 2 ^ 31) : (BitVec.ofNat 32 k).toInt = k := by
  rw [BitVec.toInt_eq_toNat_of_lt] <;> simp [BitVec.toNat_ofNat] <;> omega

theorem ofNat_inj {j k : ℕ} (hj : j < 2 ^ 31) (hk : k < 2 ^ 31) : BitVec.ofNat 32 j = BitVec.ofNat 32 k ↔ j = k := by
  constructor
  · intro e
    have := congrArg BitVec.toInt e
    rw [toInt_ofNat hj, toInt_ofNat hk] at this
    exact_mod_cast this
  · rintro rfl; rfl

/-- One step of the fold of an argmax over (value, index) pairs: the greater value, the smaller index of two equal values. -/
def Better (f : EReal × BitVec 32 → EReal × BitVec 32 → EReal × BitVec 32) : Prop :=
  ∀ a b, f a b = if b.1 < a.1 ∨ a.1 = b.1 ∧ a.2.toInt < b.2.toInt then a else b

/-- The fold keeps a pair that no pair is better than. -/
theorem Better.foldl {f : EReal × BitVec 32 → EReal × BitVec 32 → EReal × BitVec 32} (hf : Better f) (L : List (EReal × BitVec 32))
    (a : EReal × BitVec 32) :
    (L.foldl f a = a ∨ L.foldl f a ∈ L) ∧
      ∀ p, p = a ∨ p ∈ L → p.1 ≤ (L.foldl f a).1 ∧ (p.1 = (L.foldl f a).1 → (L.foldl f a).2.toInt ≤ p.2.toInt) := by
  induction L generalizing a with
  | nil => exact ⟨.inl rfl, fun p hp => by rcases hp with rfl | h <;> simp_all⟩
  | cons b L ih =>
    rw [List.foldl_cons]
    obtain ⟨h1, h2⟩ := ih (f a b)
    generalize L.foldl f (f a b) = r at h1 h2 ⊢
    have hab := hf a b
    obtain ⟨g1, g2⟩ := h2 _ (.inl rfl)
    by_cases hc : b.1 < a.1 ∨ a.1 = b.1 ∧ a.2.toInt < b.2.toInt
    · rw [if_pos hc] at hab
      rw [hab] at h1 g1 g2 h2
      refine ⟨h1.imp id (List.mem_cons_of_mem _), fun p hp => ?_⟩
      rcases hp with rfl | hp
      · exact ⟨g1, g2⟩
      rcases List.mem_cons.1 hp with rfl | hp
      · rcases hc with hc | ⟨hc, hd⟩
        · exact ⟨hc.le.trans g1, fun e => absurd (e ▸ g1) (not_le.2 hc)⟩
        · exact ⟨hc ▸ g1, fun e => (g2 (hc.trans e)).trans hd.le⟩
      · exact h2 p (.inr hp)
    · rw [if_neg hc] at hab
      rw [hab] at h1 g1 g2 h2
      push Not at hc
      refine ⟨.inr (List.mem_cons.2 h1), fun p hp => ?_⟩
      rcases hp with rfl | hp
      · refine ⟨hc.1.trans g1, fun e => ?_⟩
        have e' : p.1 = b.1 := le_antisymm hc.1 (e ▸ g1)
        exact (g2 (e' ▸ e)).trans (hc.2 e')
      rcases List.mem_cons.1 hp with rfl | hp
      · exact ⟨g1, g2⟩
      · exact h2 p (.inr hp)

/-- Folded from (-∞, 0) over the pairs of a row's entries and their indices, in any order: the first index of the largest entry. -/
theorem Better.isFirst {f : EReal × BitVec 32 → EReal × BitVec 32 → EReal × BitVec 32} (hf : Better f) (hn : 0 < n) (hn' : n < 2 ^ 31)
    (x : Fin n → EReal) (L : List (EReal × BitVec 32)) (hL : ∀ p, p ∈ L ↔ ∃ k : Fin n, p = (x k, BitVec.ofNat 32 k)) :
    ∃ i, IsFirst x i ∧ (L.foldl f (⊥, 0#32)).2 = BitVec.ofNat 32 i := by
  obtain ⟨h1, h2⟩ := hf.foldl L (⊥, 0#32)
  generalize L.foldl f (⊥, 0#32) = r at h1 h2
  have hk : ∀ k : Fin n, x k ≤ r.1 ∧ (x k = r.1 → r.2.toInt ≤ (k : ℕ)) := fun k => by
    have := h2 _ (.inr ((hL _).2 ⟨k, rfl⟩))
    rwa [toInt_ofNat (by omega)] at this
  rcases h1 with rfl | h1
  · have hb : ∀ k, x k = ⊥ := fun k => le_bot_iff.1 (hk k).1
    exact ⟨⟨0, hn⟩, fun j => ⟨by rw [hb, hb], fun _ => Nat.zero_le _⟩, rfl⟩
  · obtain ⟨i, rfl⟩ := (hL _).1 h1
    refine ⟨i, fun j => ⟨(hk j).1, fun e => ?_⟩, rfl⟩
    have := (hk j).2 e
    simp only [] at this
    rw [toInt_ofNat (by omega)] at this
    exact_mod_cast this

/-- A word minimum, read signed. -/
theorem toInt_minsi (a b : BitVec 32) : (IntOp.minsi a b).toInt = min a.toInt b.toInt := by
  unfold IntOp.minsi
  rw [BitVec.slt_eq_decide]
  by_cases h : a.toInt < b.toInt
  · simp [h, h.le]
  · simp [h, not_lt.1 h]

/-- The smallest index among those at the maximum, the others replaced by a word past the row. -/
theorem fold_minsi {x : Fin n → EReal} {i : Fin n} (h : IsFirst x i) (hn : n < 2 ^ 31) (w : BitVec 32) (hw : n ≤ w.toInt) :
    Finset.univ.fold IntOp.minsi 2147483647#32 (fun k : Fin n => if x k = top x then BitVec.ofNat 32 k else w) = BitVec.ofNat 32 i := by
  have key : ∀ (s : Finset (Fin n)) (g : Fin n → BitVec 32), (s.fold IntOp.minsi 2147483647#32 g).toInt
      = s.fold min (2147483647#32 : BitVec 32).toInt (fun k => (g k).toInt) := by
    intro s g
    induction s using Finset.induction_on with
    | empty => simp
    | insert a s ha ih => rw [Finset.fold_insert ha, Finset.fold_insert ha, toInt_minsi, ih]
  apply BitVec.toInt_inj.1
  have hi : (BitVec.ofNat 32 (i : ℕ)).toInt = (i : ℕ) := toInt_ofNat (by omega)
  rw [key, hi]
  apply le_antisymm
  · refine (Finset.fold_min_le _).2 (.inr ⟨i, Finset.mem_univ _, ?_⟩)
    rw [if_pos h.top_eq.symm, hi]
  · refine (Finset.le_fold_min _).2 ⟨?_, fun k _ => ?_⟩
    · have : (2147483647#32 : BitVec 32).toInt = 2147483647 := by decide
      omega
    · by_cases e : x k = top x
      · rw [if_pos e, toInt_ofNat (by omega : (k : ℕ) < 2 ^ 31)]
        have := (h k).2 (e.trans h.top_eq)
        exact_mod_cast this
      · rw [if_neg e]; omega

/-! ### Sums that one index selects -/

theorem select_one {α : Type} (a b : α) : Scalar.select 1#1 a b = a := rfl
theorem select_zero {α : Type} (a b : α) : Scalar.select 0#1 a b = b := rfl

/-- A select on a comparison of words for equality. -/
theorem select_eq {α : Type} (v w : BitVec 32) (a b : α) : Scalar.select (IntOp.cmpi .eq v w) a b = if v = w then a else b := by
  unfold IntOp.cmpi
  by_cases h : v = w
  · subst h; simp [select_one]
  · have : (v == w) = false := by simpa using h
    simp [this, h, select_zero]

/-- The sum of a row's entries, those off index `i` replaced by zero. -/
theorem sum_select (hn : n < 2 ^ 31) (x : Fin n → EReal) (i : Fin n) :
    ∑ k : Fin n, Scalar.select (IntOp.cmpi .eq (BitVec.ofNat 32 k) (BitVec.ofNat 32 i)) (x k) 0 = x i := by
  rw [Finset.sum_eq_single i]
  · rw [select_eq, if_pos rfl]
  · intro b _ hb
    rw [select_eq, if_neg]
    rw [ofNat_inj (by omega) (by omega)]
    exact fun e => hb (Fin.ext e)
  · simp

/-- The same of words. -/
theorem fold_select (hn : n < 2 ^ 31) (x : Fin n → BitVec 32) (i : Fin n) :
    Finset.univ.fold IntOp.addi 0#32 (fun k : Fin n => Scalar.select (IntOp.cmpi .eq (BitVec.ofNat 32 k) (BitVec.ofNat 32 i)) (x k) 0#32) = x i := by
  have key : ∀ (s : Finset (Fin n)), s.fold IntOp.addi 0#32 (fun k : Fin n => Scalar.select (IntOp.cmpi .eq (BitVec.ofNat 32 k) (BitVec.ofNat 32 i)) (x k) 0#32)
      = if i ∈ s then x i else 0#32 := by
    intro s
    induction s using Finset.induction_on with
    | empty => simp
    | insert a s ha ih =>
      rw [Finset.fold_insert ha, ih, select_eq]
      by_cases e : a = i
      · subst e; simp [ha, IntOp.addi]
      · have e' : ¬ i = a := fun h => e h.symm
        rw [if_neg (fun h => e (Fin.ext ((ofNat_inj (by omega) (by omega)).1 h)))]
        simp [e', IntOp.addi]
  rw [key, if_pos (Finset.mem_univ i)]

/-! ### The log-softmax -/

/-- The log-softmax of a row at an index. -/
def logSoftmax (x : Fin n → EReal) (i : Fin n) : EReal := x i - top x - Ideal.log (∑ j, Ideal.exp (x j - top x))

/-! ### A row of 20 in columns 1 … 20 of a row of 32 -/

/-- The row of 20 laid in columns 1 … 20, -∞ in the other columns. -/
def widen (x : Fin 20 → EReal) : Fin 32 → EReal := fun k => if h : 1 ≤ k.val ∧ k.val < 21 then x ⟨k.val - 1, by omega⟩ else ⊥

/-- The column of an entry. -/
def wide (a : Fin 20) : Fin 32 := ⟨a.val + 1, by omega⟩

theorem wide_inj : Function.Injective wide := fun a b e => Fin.ext (by have := congrArg Fin.val e; simp only [wide] at this; omega)

theorem widen_wide (x : Fin 20 → EReal) (a : Fin 20) : widen x (wide a) = x a := by
  unfold widen wide
  rw [dif_pos ⟨by simp, by simp only []; omega⟩]
  rfl

/-- A column of the wide row is an entry's, or holds -∞. -/
theorem widen_cases (x : Fin 20 → EReal) (k : Fin 32) : (∃ a, k = wide a) ∨ (widen x k = ⊥ ∧ k ∉ Set.range wide) := by
  by_cases h : 1 ≤ k.val ∧ k.val < 21
  · exact .inl ⟨⟨k.val - 1, by omega⟩, Fin.ext (by simp only [wide]; omega)⟩
  · refine .inr ⟨dif_neg h, ?_⟩
    rintro ⟨a, rfl⟩
    exact h ⟨by simp [wide], by simp only [wide]; omega⟩

theorem top_widen (x : Fin 20 → EReal) : top (widen x) = top x := by
  apply le_antisymm
  · refine Finset.sup_le fun k _ => ?_
    rcases widen_cases x k with ⟨a, rfl⟩ | ⟨h, _⟩
    · rw [widen_wide]; exact Finset.le_sup (Finset.mem_univ a)
    · rw [h]; exact bot_le
  · refine Finset.sup_le fun a _ => ?_
    rw [← widen_wide x a]; exact Finset.le_sup (Finset.mem_univ _)

theorem sum_widen (x : Fin 20 → EReal) (m : EReal) : ∑ k, Ideal.exp (widen x k - m) = ∑ a, Ideal.exp (x a - m) := by
  refine (Fintype.sum_of_injective wide wide_inj _ _ (fun k hk => ?_) fun a => ?_).symm
  · rcases widen_cases x k with ⟨a, rfl⟩ | ⟨h, _⟩
    · exact absurd ⟨a, rfl⟩ hk
    · rw [h, EReal.bot_sub]; exact Ideal.exp_bot
  · rw [widen_wide]

theorem logSoftmax_widen (x : Fin 20 → EReal) (a : Fin 20) : logSoftmax (widen x) (wide a) = logSoftmax x a := by
  unfold logSoftmax
  rw [top_widen, sum_widen, widen_wide]

theorem IsFirst.widen {x : Fin 20 → EReal} {a : Fin 20} (h : IsFirst x a) (hb : x a ≠ ⊥) : IsFirst (widen x) (wide a) := by
  intro k
  rw [widen_wide]
  rcases widen_cases x k with ⟨b, rfl⟩ | ⟨e, _⟩
  · rw [widen_wide]
    refine ⟨(h b).1, fun e => ?_⟩
    have := (h b).2 e
    simp only [wide, Fin.mk_le_mk]
    have : a.val ≤ b.val := this
    omega
  · rw [e]
    exact ⟨bot_le, fun q => absurd q.symm hb⟩

theorem widen_add (x y : Fin 20 → EReal) (g : Fin 32 → EReal) (hg : ∀ a, g (wide a) = y a) :
    (fun k => Row.widen x k + g k) = Row.widen (fun a => y a + x a) := by
  funext k
  rcases widen_cases x k with ⟨a, rfl⟩ | ⟨h, hk⟩
  · rw [widen_wide, widen_wide, hg, add_comm]
  · rcases widen_cases (fun a => y a + x a) k with ⟨a, rfl⟩ | ⟨h', _⟩
    · exact absurd ⟨a, rfl⟩ hk
    · rw [h, h', EReal.bot_add]

/-! ### Finite rows -/

/-- A number below +∞ in absolute value is real. -/
theorem real_of_abs_lt {x : EReal} (h : max x (-x) < ⊤) : ∃ r : ℝ, x = r := by
  induction x with
  | bot => simp at h
  | coe r => exact ⟨r, rfl⟩
  | top => simp at h

/-- A sum of products of reals is above -∞. -/
theorem sum_mul_ne_bot {x y : Fin n → EReal} (hx : ∀ k, ∃ r : ℝ, x k = r) (hy : ∀ k, ∃ r : ℝ, y k = r) : ∑ k, x k * y k ≠ ⊥ := by
  choose a ha using hx
  choose b hb using hy
  have : ∑ k, x k * y k = ((∑ k, a k * b k : ℝ) : EReal) := by
    simp only [ha, hb, ← EReal.coe_mul]
    exact (map_sum (⟨⟨Real.toEReal, EReal.coe_zero⟩, EReal.coe_add⟩ : ℝ →+ EReal) _ _).symm
  rw [this]
  exact EReal.coe_ne_bot _

/-! ### What one row's draws are -/

/-- The position logits of a row: -∞ at and past the row's length. -/
def posRow (lat : Fin 15 → Fin 512 → EReal) (len : BitVec 32) (wp : Fin 512 → EReal) : Fin 15 → EReal := fun l =>
  Scalar.select (IntOp.cmpi .slt (BitVec.ofNat 32 l) len) (∑ d, lat l d * wp d) ⊥

/-- The amino logits of a latent vector: -∞ at the amino that the word `p`, counted from one, names. -/
def aminoRow (v : Fin 512 → EReal) (wa : Fin 512 → Fin 20 → EReal) (p : BitVec 32) : Fin 20 → EReal := fun a =>
  if BitVec.ofNat 32 (a + 1) = p then ⊥ else ∑ d, v d * wa d a

/-- Position `i` and amino `a` are the row's draws: the first indices of the largest noisy logits. -/
structure Drawn (lat : Fin 15 → Fin 512 → EReal) (pep : Fin 15 → BitVec 32) (len : BitVec 32) (wp : Fin 512 → EReal)
    (wa : Fin 512 → Fin 20 → EReal) (g1 : Fin 15 → EReal) (g2 : Fin 20 → EReal) (i : Fin 15) (a : Fin 20) : Prop where
  pos : IsFirst (fun l => g1 l + posRow lat len wp l) i
  amino : IsFirst (fun b => g2 b + aminoRow (lat i) wa (pep i) b) a

/-- The log-probability of position `i` and amino `a`. -/
def logProb (lat : Fin 15 → Fin 512 → EReal) (pep : Fin 15 → BitVec 32) (len : BitVec 32) (wp : Fin 512 → EReal)
    (wa : Fin 512 → Fin 20 → EReal) (i : Fin 15) (a : Fin 20) : EReal :=
  logSoftmax (posRow lat len wp) i + logSoftmax (aminoRow (lat i) wa (pep i)) a

/-- With finite latents and weights, and noise above -∞, the largest noisy amino logit is above -∞: one word masks one amino. -/
theorem Drawn.ne_bot {lat : Fin 15 → Fin 512 → EReal} {pep : Fin 15 → BitVec 32} {len : BitVec 32} {wp : Fin 512 → EReal}
    {wa : Fin 512 → Fin 20 → EReal} {g1 : Fin 15 → EReal} {g2 : Fin 20 → EReal} {i : Fin 15} {a : Fin 20}
    (h : Drawn lat pep len wp wa g1 g2 i a) (hl : ∀ l d, ∃ r : ℝ, lat l d = r) (hw : ∀ d b, ∃ r : ℝ, wa d b = r)
    (hg : ∀ b, g2 b ≠ ⊥) : g2 a + aminoRow (lat i) wa (pep i) a ≠ ⊥ := by
  have key : ∀ b : Fin 20, BitVec.ofNat 32 (b + 1) ≠ pep i → g2 a + aminoRow (lat i) wa (pep i) a ≠ ⊥ := fun b hb e => by
    have hm := (h.amino b).1
    simp only [] at hm
    rw [e, le_bot_iff] at hm
    unfold aminoRow at hm
    rw [if_neg hb, EReal.add_eq_bot_iff] at hm
    rcases hm with hm | hm
    · exact hg b hm
    · exact sum_mul_ne_bot (hl i) (fun d => hw d b) hm
  by_cases h0 : BitVec.ofNat 32 ((0 : Fin 20) + 1 : ℕ) = pep i
  · refine key 1 fun h1 => ?_
    have := h0.trans h1.symm
    exact absurd this (by decide)
  · exact key 0 h0

end Cert.Proof.Row

end
-- ==== Proof.KerRow.lean ====
/- The kernel's body read at one row of a block: its payloads are the row's position logits, the first index of the noisy
   maximum, the log-softmax, the selected amino logits laid in columns 1 … 20 of 32, and the two stored results. -/
module

public import proofs.«01_k».proof.Proof.Gen.KernelIdeal.Value
public import proofs.«01_k».proof.Proof.Row
public import Idealize.ShloMosaic.Lib.Pointwise
public import Idealize.ShloMosaic.Lib.Pipeline.ValueKit.Acc

@[expose] public section

noncomputable section

namespace Cert.Proof.Ker

open Idealize.ShloMosaic Cert.KernelIdeal Cert.KernelIdeal.Gen Cert.Proof.Row

/-- The named padding value is -∞. -/
theorem mask_bot : Named.named (F := Ideal) κ "mask" (φ := .f32) 3351465984#32 = (⊥ : EReal) :=
  IdealRules.named_const.ideal_named_scalar _ _ _ _ rfl

/-- Row `r` of position `l`'s slab, among all rows. -/
def slab (l : Fin 15) (r : Fin 512) : Fin 7680 := ⟨l.val * 512 + r.val, by omega⟩

theorem slab_div (l : Fin 15) (r : Fin 512) : (slab l r).val / 512 = l.val := by
  simp only [slab]; omega

theorem slab_mod (l : Fin 15) (r : Fin 512) : (slab l r).val % 512 = r.val := by
  simp only [slab]; omega

section logits

variable (v0 : FVec Ideal S15x512x512 .f32) (v1 : FVec Ideal S512x1 .f32) (v2 : FVec Ideal S512x20 .f32) (v12 : IVec S512 32)
  (v19 : FVec Ideal S512x15 .f32) (l : Fin 15) (r : Fin 512)

theorem pay3_pos : k0_pay3 (F := Ideal) v0 v1 v2 (ix2 (slab l r) 0) = ∑ d, v0 (ix3 l r d) * v1 (ix2 d 0) := by
  unfold k0_pay3
  pointwise
  exact Finset.sum_congr rfl fun d _ => congrArg (· * v1 (ix2 d 0))
    (congrArg₂ (fun p q => v0 (ix3 p q d)) (Fin.ext (slab_div l r)) (Fin.ext (slab_mod l r)))

theorem pay3_amino (b : Fin 20) :
    k0_pay3 (F := Ideal) v0 v1 v2 (ix2 (slab l r) ⟨b.val + 1, by omega⟩) = ∑ d, v0 (ix3 l r d) * v2 (ix2 d b) := by
  unfold k0_pay3
  pointwise
  refine Finset.sum_congr rfl fun d _ => congrArg₂ (· * ·)
    (congrArg₂ (fun p q => v0 (ix3 p q d)) (Fin.ext (slab_div l r)) (Fin.ext (slab_mod l r))) ?_
  rw [dif_neg (by omega), dif_pos (by omega)]
  exact congrArg (fun q => v2 (ix2 d q)) (Fin.ext (by simp))

theorem pay4_apply : k0_pay4 (F := Ideal) v0 v1 v2 v12 (ix2 r l)
    = posRow (fun l d => v0 (ix3 l r d)) (v12 (ix1 r)) (fun d => v1 (ix2 d 0)) l := by
  have h := pay3_pos v0 v1 v2 l r
  unfold k0_pay4
  generalize k0_pay3 (F := Ideal) v0 v1 v2 = x at h ⊢
  pointwise
  rw [mask_bot]
  exact congrArg (fun q => Scalar.select (IntOp.cmpi .slt (BitVec.ofNat 32 l) (v12 (ix1 r))) q ⊥) h

/-- The log-softmax of the position logits. -/
theorem pay6_apply : k0_pay6 (F := Ideal) v0 v1 v2 v12 (ix2 r l)
    = logSoftmax (posRow (fun l d => v0 (ix3 l r d)) (v12 (ix1 r)) (fun d => v1 (ix2 d 0))) l := by
  have h := funext fun l => pay4_apply v0 v1 v2 v12 l r
  rw [← h]
  unfold k0_pay6
  generalize k0_pay4 (F := Ideal) v0 v1 v2 v12 = x
  pointwise
  rw [ofBits_bot, fold_max]
  rfl

/-- The position that the kernel draws: the first index of the largest noisy logit. -/
theorem pay5_apply {i : Fin 15}
    (hi : IsFirst (fun l => v19 (ix2 r l) + posRow (fun l d => v0 (ix3 l r d)) (v12 (ix1 r)) (fun d => v1 (ix2 d 0)) l) i) :
    k0_pay5 (F := Ideal) v0 v1 v2 v12 v19 (ix2 r 0) = BitVec.ofNat 32 i := by
  have h := fun l => pay4_apply v0 v1 v2 v12 l r
  have hi' : IsFirst (fun l => k0_pay4 (F := Ideal) v0 v1 v2 v12 (ix2 r l) + v19 (ix2 r l)) i := by
    have e : (fun l => k0_pay4 (F := Ideal) v0 v1 v2 v12 (ix2 r l) + v19 (ix2 r l))
        = fun l => v19 (ix2 r l) + posRow (fun l d => v0 (ix3 l r d)) (v12 (ix1 r)) (fun d => v1 (ix2 d 0)) l :=
      funext fun l => by rw [h, add_comm]
    rw [e]; exact hi
  unfold k0_pay5
  generalize k0_pay4 (F := Ideal) v0 v1 v2 v12 = x at hi' ⊢
  pointwise
  rw [ofBits_bot, fold_max]
  exact fold_minsi hi' (by omega) 15#32 (by decide)

theorem pay7_apply : k0_pay7 (F := Ideal) v0 v1 v2 v12 v19 (ix2 r l)
    = IntOp.cmpi .eq (BitVec.ofNat 32 l) (k0_pay5 (F := Ideal) v0 v1 v2 v12 v19 (ix2 r 0)) := by
  unfold k0_pay7
  generalize k0_pay5 (F := Ideal) v0 v1 v2 v12 v19 = x
  pointwise

theorem pay10_apply (v8 : FVec Ideal S7680x128 .f32) (k : Fin 32) : k0_pay10 v8 (ix3 l r k) = v8 (ix2 (slab l r) ⟨k.val, by omega⟩) := by
  unfold k0_pay10
  pointwise
  rfl

end logits

theorem pay8_apply (v38 : FVec Ideal S512x15 .f32) (v40 : IVec S512x15 1) (r : Fin 512) {i : Fin 15}
    (h : ∀ l : Fin 15, v40 (ix2 r l) = IntOp.cmpi .eq (BitVec.ofNat 32 l) (BitVec.ofNat 32 i)) :
    k0_pay8 v38 v40 (ix2 r 0) = v38 (ix2 r i) := by
  unfold k0_pay8
  pointwise
  simp only [h]
  exact sum_select (by omega) (fun l => v38 (ix2 r l)) i

theorem pay9_apply (v40 : IVec S512x15 1) (v45 : IVec S512x15 32) (r : Fin 512) {i : Fin 15}
    (h : ∀ l : Fin 15, v40 (ix2 r l) = IntOp.cmpi .eq (BitVec.ofNat 32 l) (BitVec.ofNat 32 i)) :
    k0_pay9 (F := Ideal) v40 v45 (ix2 r 0) = v45 (ix2 r i) := by
  unfold k0_pay9
  pointwise
  simp only [h]
  exact fold_select (by omega) (fun l => v45 (ix2 r l)) i

theorem pay11_apply (v8 : FVec Ideal S7680x128 .f32) (v28 : IVec S512x1 32) (r : Fin 512) (k : Fin 32) (i : Fin 15)
    (h : v28 (ix2 r 0) = BitVec.ofNat 32 i) (hi : i.val < 6) : k0_pay11 v8 v28 (ix2 r k) = k0_pay10 v8 (ix3 i r k) := by
  unfold k0_pay11
  generalize k0_pay10 v8 = x
  pointwise
  simp only [h, select_eq]
  match i, hi with
  | 0, _ => rfl
  | 1, _ => rfl
  | 2, _ => rfl
  | 3, _ => rfl
  | 4, _ => rfl
  | 5, _ => rfl

theorem pay12_low (v28 : IVec S512x1 32) (v51 : FVec Ideal S15x512x32 .f32) (v88 : FVec Ideal S512x32 .f32) (r : Fin 512) (k : Fin 32) (i : Fin 15)
    (h : v28 (ix2 r 0) = BitVec.ofNat 32 i) (hi : i.val < 6) : k0_pay12 v28 v51 v88 6#32 (ix2 r k) = v88 (ix2 r k) := by
  unfold k0_pay12
  pointwise
  simp only [h, select_eq]
  match i, hi with
  | 0, _ => rfl
  | 1, _ => rfl
  | 2, _ => rfl
  | 3, _ => rfl
  | 4, _ => rfl
  | 5, _ => rfl

theorem pay12_high (v28 : IVec S512x1 32) (v51 : FVec Ideal S15x512x32 .f32) (v88 : FVec Ideal S512x32 .f32) (r : Fin 512) (k : Fin 32) (i : Fin 15)
    (h : v28 (ix2 r 0) = BitVec.ofNat 32 i) (hi : 6 ≤ i.val ∧ i.val < 13) : k0_pay12 v28 v51 v88 6#32 (ix2 r k) = v51 (ix3 i r k) := by
  unfold k0_pay12
  pointwise
  simp only [h, select_eq]
  match i, hi with
  | 6, _ => rfl
  | 7, _ => rfl
  | 8, _ => rfl
  | 9, _ => rfl
  | 10, _ => rfl
  | 11, _ => rfl
  | 12, _ => rfl

theorem pay13_apply (v28 : IVec S512x1 32) (r : Fin 512) : k0_pay13 v28 (ix2 r 0) = IntOp.cmpi .eq (v28 (ix2 r 0)) 13#32 := by
  unfold k0_pay13
  pointwise

theorem pay14_apply (v51 : FVec Ideal S15x512x32 .f32) (r : Fin 512) (k : Fin 32) : k0_pay14 v51 (ix2 r k) = v51 (ix3 13 r k) := by
  unfold k0_pay14
  pointwise

/-- The amino logits of position `i`, the present amino and the columns without an amino at -∞. -/
theorem pay15_apply (v28 v49 : IVec S512x1 32) (v51 : FVec Ideal S15x512x32 .f32) (v137 : FVec Ideal S512x32 .f32) (v139 : IVec S512x1 1)
    (v141 : FVec Ideal S512x32 .f32) (r : Fin 512) (k : Fin 32) :
    k0_pay15 v28 v49 v51 v137 v139 v141 (ix2 r k)
      = if BitVec.ofNat 32 k = v49 (ix2 r 0) then ⊥ else if k.val = 0 ∨ 21 ≤ k.val then ⊥ else
        Scalar.select (IntOp.cmpi .eq (v28 (ix2 r 0)) 14#32) (v51 (ix3 14 r k)) (Scalar.select (v139 (ix2 r 0)) (v141 (ix2 r k)) (v137 (ix2 r k))) := by
  unfold k0_pay15
  pointwise
  have e : IntOp.ori (IntOp.cmpi .eq (BitVec.ofNat 32 k.val) 0#32) (IntOp.cmpi .sge (BitVec.ofNat 32 k.val) 21#32)
      = if k.val = 0 ∨ 21 ≤ k.val then 1#1 else 0#1 := by
    revert k; decide
  rw [e, mask_bot, select_eq]
  by_cases q : k.val = 0 ∨ 21 ≤ k.val
  · rw [if_pos q, if_pos q]; rfl
  · rw [if_neg q, if_neg q]; rfl

theorem pay16_apply (v28 v49 : IVec S512x1 32) (v51 : FVec Ideal S15x512x32 .f32) (v137 : FVec Ideal S512x32 .f32) (v139 : IVec S512x1 1)
    (v141 v164 : FVec Ideal S512x32 .f32) (r : Fin 512) {k : Fin 32}
    (h : IsFirst (fun k => k0_pay15 v28 v49 v51 v137 v139 v141 (ix2 r k) + v164 (ix2 r k)) k) :
    k0_pay16 v28 v49 v51 v137 v139 v141 v164 (ix2 r 0) = BitVec.ofNat 32 k := by
  unfold k0_pay16
  generalize k0_pay15 v28 v49 v51 v137 v139 v141 = x at h
  pointwise
  rw [ofBits_bot, fold_max]
  exact fold_minsi h (by omega) 32#32 (by decide)

theorem pay17_apply (v28 v49 : IVec S512x1 32) (v51 : FVec Ideal S15x512x32 .f32) (v137 : FVec Ideal S512x32 .f32) (v139 : IVec S512x1 1)
    (v141 v164 : FVec Ideal S512x32 .f32) (r : Fin 512) (k : Fin 32) :
    k0_pay17 v28 v49 v51 v137 v139 v141 v164 (ix2 r k)
      = Scalar.select (IntOp.cmpi .eq (BitVec.ofNat 32 k) (k0_pay16 v28 v49 v51 v137 v139 v141 v164 (ix2 r 0)))
        (logSoftmax (fun k => k0_pay15 v28 v49 v51 v137 v139 v141 (ix2 r k)) k) 0 := by
  unfold k0_pay17
  generalize k0_pay15 v28 v49 v51 v137 v139 v141 = x
  generalize k0_pay16 v28 v49 v51 v137 v139 v141 v164 = y
  pointwise
  rw [ofBits_bot, fold_max]
  rfl

theorem pay2_apply (v44 : FVec Ideal S512x1 .f32) (v188 : FVec Ideal S512x32 .f32) (r : Fin 512) :
    k0_pay2 v44 v188 (ix1 r) = v44 (ix2 r 0) + ∑ k, v188 (ix2 r k) := by
  unfold k0_pay2
  pointwise

theorem pay1_left (v28 v174 : IVec S512x1 32) (r : Fin 512) : k0_pay1 v28 v174 (ix2 r 0) = v28 (ix2 r 0) := by
  unfold k0_pay1
  pointwise

theorem pay1_right (v28 v174 : IVec S512x1 32) (r : Fin 512) : k0_pay1 v28 v174 (ix2 r 1) = v174 (ix2 r 0) := by
  unfold k0_pay1
  pointwise

section row

variable (x0 : FVec Ideal S15x512x512 .f32) (x1 : IVec S512x15 32) (x2 : IVec S512 32) (x3 : FVec Ideal S512x15 .f32)
  (x4 : FVec Ideal S512x32 .f32) (x5 : FVec Ideal S512x1 .f32) (x6 : FVec Ideal S512x20 .f32) (r : Fin 512)

/-- The chain of selects on the position `i` picks position `i`'s logits. -/
theorem selected (v8 : FVec Ideal S7680x128 .f32) (v28 : IVec S512x1 32) (k : Fin 32) (i : Fin 15) (h : v28 (ix2 r 0) = BitVec.ofNat 32 i) :
    Scalar.select (IntOp.cmpi .eq (v28 (ix2 r 0)) 14#32) (k0_pay10 v8 (ix3 14 r k))
        (Scalar.select (k0_pay13 v28 (ix2 r 0)) (k0_pay14 (k0_pay10 v8) (ix2 r k))
          (k0_pay12 v28 (k0_pay10 v8) (k0_pay11 v8 v28) 6#32 (ix2 r k)))
      = k0_pay10 v8 (ix3 i r k) := by
  rw [pay13_apply, pay14_apply, select_eq, select_eq, h]
  by_cases h14 : i.val = 14
  · obtain rfl : i = 14 := Fin.ext h14
    exact if_pos rfl
  rw [if_neg (fun e => h14 ((ofNat_inj (by omega) (by omega)).1 e))]
  by_cases h13 : i.val = 13
  · obtain rfl : i = 13 := Fin.ext h13
    exact if_pos rfl
  rw [if_neg (fun e => h13 ((ofNat_inj (by omega) (by omega)).1 e))]
  by_cases h6 : i.val < 6
  · rw [pay12_low _ _ _ r k i h h6, pay11_apply _ _ r k i h h6]
  · exact pay12_high _ _ _ r k i h ⟨by omega, by omega⟩

/-- The masked amino logits of the drawn position: the row of 20 laid in columns 1 … 20. -/
theorem amino_row (v28 v49 : IVec S512x1 32) (i : Fin 15) (h : v28 (ix2 r 0) = BitVec.ofNat 32 i) :
    (fun k => k0_pay15 v28 v49 (k0_pay10 (k0_pay3 (F := Ideal) x0 x5 x6))
        (k0_pay12 v28 (k0_pay10 (k0_pay3 (F := Ideal) x0 x5 x6)) (k0_pay11 (k0_pay3 (F := Ideal) x0 x5 x6) v28) 6#32)
        (k0_pay13 v28) (k0_pay14 (k0_pay10 (k0_pay3 (F := Ideal) x0 x5 x6))) (ix2 r k))
      = widen (aminoRow (fun d => x0 (ix3 i r d)) (fun d b => x6 (ix2 d b)) (v49 (ix2 r 0))) := by
  have h3 := pay3_amino x0 x5 x6 i r
  generalize k0_pay3 (F := Ideal) x0 x5 x6 = v8 at h3 ⊢
  funext k
  rw [pay15_apply, selected r v8 v28 k i h, pay10_apply]
  by_cases hk : 1 ≤ k.val ∧ k.val < 21
  · obtain ⟨b, rfl⟩ : ∃ b, k = wide b := ⟨⟨k.val - 1, by omega⟩, Fin.ext (by simp only [wide]; omega)⟩
    rw [widen_wide, if_neg (by simp only [wide]; omega : ¬ ((wide b).val = 0 ∨ 21 ≤ (wide b).val))]
    exact congrArg (fun q => if BitVec.ofNat 32 (b.val + 1) = v49 (ix2 r 0) then ⊥ else q) (h3 b)
  · rw [if_pos (by omega : k.val = 0 ∨ 21 ≤ k.val), ite_self]
    unfold widen
    rw [dif_neg hk]

/-- The two stored results at a row: the row's draws and their log-probability. -/
theorem row (g2 : Fin 20 → EReal) (hg : ∀ b, x4 (ix2 r (wide b)) = g2 b) {i : Fin 15} {a : Fin 20}
    (h : Drawn (fun l d => x0 (ix3 l r d)) (fun l => x1 (ix2 r l)) (x2 (ix1 r)) (fun d => x5 (ix2 d 0)) (fun d b => x6 (ix2 d b))
      (fun l => x3 (ix2 r l)) g2 i a)
    (hb : g2 a + aminoRow (fun d => x0 (ix3 i r d)) (fun d b => x6 (ix2 d b)) (x1 (ix2 r i)) a ≠ ⊥) :
    out0_7 (F := Ideal) x0 x1 x2 x3 x4 x5 x6 (ix2 r 0) = BitVec.ofNat 32 i ∧
      out0_7 (F := Ideal) x0 x1 x2 x3 x4 x5 x6 (ix2 r 1) = BitVec.ofNat 32 (a + 1) ∧
      out0_8 (F := Ideal) x0 x1 x2 x3 x4 x5 x6 (ix1 r)
        = logProb (fun l d => x0 (ix3 l r d)) (fun l => x1 (ix2 r l)) (x2 (ix1 r)) (fun d => x5 (ix2 d 0)) (fun d b => x6 (ix2 d b)) i a := by
  have e5 := pay5_apply x0 x5 x6 x2 x3 r h.pos
  have e7 := fun l => (pay7_apply x0 x5 x6 x2 x3 l r).trans (congrArg (IntOp.cmpi .eq (BitVec.ofNat 32 l.val)) e5)
  have e9 := pay9_apply _ x1 r e7
  have e8 := (pay8_apply (k0_pay6 (F := Ideal) x0 x5 x6 x2) _ r e7).trans (pay6_apply x0 x5 x6 x2 i r)
  have e15 := amino_row x0 x5 x6 r _ (k0_pay9 (F := Ideal) (k0_pay7 (F := Ideal) x0 x5 x6 x2 x3) x1) i e5
  rw [e9] at e15
  have e16 := pay16_apply _ _ _ _ _ _ x4 r (k := wide a) (by
    have q := h.amino.widen hb
    rw [← widen_add _ g2 (fun k => x4 (ix2 r k)) hg, ← e15] at q
    exact q)
  have e17 := fun k => pay17_apply _ _ _ _ _ _ x4 r k |>.trans (by rw [e16, e15])
  unfold_out out0_7
  unfold_out out0_8
  simp (disch := decide) only [View.ld_unit_lit', View.canon_cons_unit_lit']
  refine ⟨?_, ?_, ?_⟩
  · rw [pay1_left]; exact e5
  · rw [pay1_right]; exact e16
  · rw [pay2_apply, e8, Finset.sum_congr rfl fun k _ => e17 k, sum_select (by omega) (logSoftmax (widen _)) (wide a), logSoftmax_widen]
    rfl

end row

end Cert.Proof.Ker

end
-- ==== Proof.KerArr.lean ====
/- The kernel's arrays after the run: row `512 t + r` of each result is row `r` of what grid point `t` stores, read over the
   arguments' blocks. -/
module

public import proofs.«01_k».proof.Proof.KerRow
public import Idealize.ShloMosaic.Lib.Pipeline.ValueKit
public import Idealize.ShloMosaic.Lib.Claim
public import Idealize.ShloMosaic.Lib.StableHlo.ReadAt

@[expose] public section

noncomputable section

namespace Cert.Proof.Ker

open Idealize.ShloMosaic Idealize.ShloMosaic.TcCoe Cert.KernelIdeal Cert.KernelIdeal.Gen Cert.Proof.Row

variable (m : (ℓ : Loc nD τ sig) → Buf (Elt Ideal) ℓ) (c : Dev nD) (t : Fin cfg0.N)

/-- Row `r` of grid point `t`'s blocks, among all rows. -/
def blkRow (r : Fin 512) : Fin 8192 := ⟨t.val * 512 + r.val, by have : t.val < 16 := t.isLt; omega⟩

/-- Where each window's block lies at a grid point. -/
theorem idx : ∀ t : Fin cfg0.N, win0_0.index t = ![0, t.val, 0] ∧ win0_1.index t = ![t.val, 0] ∧ win0_2.index t = ![t.val]
    ∧ win0_3.index t = ![t.val, 0] ∧ win0_4.index t = ![t.val, 0] ∧ win0_5.index t = ![0, 0] ∧ win0_6.index t = ![0, 0]
    ∧ win0_7.index t = ![t.val, 0] ∧ win0_8.index t = ![t.val] :=
  (by decide +kernel : ∀ t : Fin grid0.N, win0_0.index t = ![0, t.val, 0] ∧ win0_1.index t = ![t.val, 0] ∧ win0_2.index t = ![t.val]
    ∧ win0_3.index t = ![t.val, 0] ∧ win0_4.index t = ![t.val, 0] ∧ win0_5.index t = ![0, 0] ∧ win0_6.index t = ![0, 0]
    ∧ win0_7.index t = ![t.val, 0] ∧ win0_8.index t = ![t.val])

theorem blk0 (l : Fin 15) (r d : Fin 512) : iblk m c 0 t (ix3 l r d) = m ((c : Thread nD τ).loc main_arg0) (ix3 l (blkRow t r) d) := by
  rw [← V_main_arg0 m c]
  blk_ext [iblk, blkRow, (idx t).1]

theorem blk1 (r : Fin 512) (l : Fin 15) : iblk m c 1 t (ix2 r l) = m ((c : Thread nD τ).loc main_arg2) (ix2 (blkRow t r) l) := by
  rw [← V_main_arg2 m c]
  blk_ext [iblk, blkRow, (idx t).2.1]

theorem blk2 (r : Fin 512) : iblk m c 2 t (ix1 r) = m ((c : Thread nD τ).loc main_arg4) (ix1 (blkRow t r)) := by
  rw [← V_main_arg4 m c]
  blk_ext [iblk, blkRow, (idx t).2.2.1]

theorem blk3 (r : Fin 512) (l : Fin 15) : iblk m c 3 t (ix2 r l) = m ((c : Thread nD τ).loc main_arg9) (ix2 (blkRow t r) l) := by
  rw [← V_main_arg9 m c]
  blk_ext [iblk, blkRow, (idx t).2.2.2.1]

theorem blk4 (r : Fin 512) (b : Fin 20) : iblk m c 4 t (ix2 r (wide b)) = m ((c : Thread nD τ).loc main_arg10) (ix2 (blkRow t r) b) := by
  have e : iblk m c 4 t (ix2 r (wide b)) = V m c main_v0 (ix2 (blkRow t r) (wide b)) := by
    blk_ext [iblk, blkRow, wide, (idx t).2.2.2.2.1]
  rw [e]
  unfold V
  after_reads_at
  rw [dif_pos ⟨by simp [wide], by simp only [wide]; omega⟩]
  exact congrArg (fun q => m ((c : Thread nD τ).loc main_arg10) (ix2 (blkRow t r) q)) (Fin.ext (by simp [wide]))

theorem blk5 (d : Fin 512) : iblk m c 5 t (ix2 d 0) = m ((c : Thread nD τ).loc main_arg5) (ix2 d 0) := by
  rw [← V_main_arg5 m c]
  blk_ext [iblk, (idx t).2.2.2.2.2.1]

theorem blk6 (d : Fin 512) (b : Fin 20) : iblk m c 6 t (ix2 d b) = m ((c : Thread nD τ).loc main_arg7) (ix2 d b) := by
  rw [← V_main_arg7 m c]
  blk_ext [iblk, (idx t).2.2.2.2.2.2.1]

/-- The first result after the run, if each point's block agrees with it. -/
theorem arr7 (G : S8192x2.Idx → BitVec 32)
    (h : ∀ (t : Fin cfg0.N) (r : Fin 512) (d : Fin 2), out0_7 (F := Ideal) (iblk m c 0 t) (iblk m c 1 t) (iblk m c 2 t) (iblk m c 3 t) (iblk m c 4 t) (iblk m c 5 t)
      (iblk m c 6 t) (ix2 r d) = G (ix2 (blkRow t r) d)) :
    (dats m 0 c).arrAt 7 cfg0.N = G := by
  refine (dats m 0 c).arrAt_eq_of_covers 7 _ (by decide +kernel) fun t hf y => ?_
  blk_simp
  rw [after0_7]
  have hy : y = ix2 (y 0) (y 1) := by
    funext a
    match a with
    | ⟨0, _⟩ => rfl
    | ⟨1, _⟩ => rfl
  rw [hy]
  refine (h t (y 0) (y 1)).trans (congrArg G ?_)
  blk_ext [blkRow, (idx t).2.2.2.2.2.2.2.1]

theorem arr8 (G : S8192.Idx → EReal)
    (h : ∀ (t : Fin cfg0.N) (r : Fin 512), out0_8 (F := Ideal) (iblk m c 0 t) (iblk m c 1 t) (iblk m c 2 t) (iblk m c 3 t) (iblk m c 4 t) (iblk m c 5 t)
      (iblk m c 6 t) (ix1 r) = G (ix1 (blkRow t r))) :
    (dats m 0 c).arrAt 8 cfg0.N = G := by
  refine (dats m 0 c).arrAt_eq_of_covers 8 _ (by decide +kernel) fun t hf y => ?_
  blk_simp
  rw [after0_8]
  have hy : y = ix1 (y 0) := by
    funext a
    match a with
    | ⟨0, _⟩ => rfl
  rw [hy]
  refine (h t (y 0)).trans (congrArg G ?_)
  blk_ext [blkRow, (idx t).2.2.2.2.2.2.2.2]

end Cert.Proof.Ker

end
-- ==== Proof.RefRow.lean ====
/- The reference's stages read at one row: its argmax is the first index of the row's largest entry, its gathers read the entry
   at an index in range, its scatter replaces the entry at the index, or none where the index is past the row. -/
module

public import proofs.«01_k».proof.Proof.Ref
public import proofs.«01_k».proof.Proof.Row
public import Idealize.ShloMosaic.Lib.Pointwise
public import Idealize.ShloMosaic.Lib.Routing.OpsSet

@[expose] public section

noncomputable section

namespace Cert.Proof.Ref

open Idealize.ShloMosaic Cert.ReferenceIdeal Cert.Proof.Row

/-- The reference's fold keeps the better of two pairs. -/
theorem better : Better (reducer_argmax_f32_i32 (F := Ideal)) := by
  intro a b
  unfold reducer_argmax_f32_i32
  have hs : IntOp.cmpi .slt a.2 b.2 = BitVec.ofBool (decide (a.2.toInt < b.2.toInt)) := by
    unfold IntOp.cmpi; rw [BitVec.slt_eq_decide]
  rw [hs]
  simp only [Ideal.cmpf_def, Ideal.cmp]
  by_cases h1 : b.1 < a.1 <;> by_cases h2 : a.1 = b.1 <;> by_cases h3 : a.2.toInt < b.2.toInt <;>
    simp [h1, h2, h3, IntOp.ori, IntOp.andi, Scalar.select]
  all_goals exact Prod.ext h2.symm rfl

/-- The argmax of a row, of any width. -/
theorem argmax_apply {n : ℕ} (hn : 0 < n) (hn' : n < 2 ^ 31) (x : FVec Ideal ⟨2, ![8192, n]⟩ .f32)
    (h : (⟨2, ![8192, n]⟩ : Shape).ReducesTo [1] S8192) (hu : 0 < S_.numel) (r : Fin 8192) :
    ∃ i, IsFirst (fun k => x (ix2 r k)) i ∧
      (Host.argReduce reducer_argmax_f32_i32 x (iotaInDim ⟨2, ![8192, n]⟩ 32 1) (constant S_ .f32 0xFF800000#32) (constantI S_ 32 0#32) h hu (ix1 r)).2
        = BitVec.ofNat 32 i := by
  rw [Ideal.argReduce_eq_reduce2, Host.reduce2_eq_foldl_fiber]
  have h0 : (constant (F := Ideal) S_ .f32 0xFF800000#32 (Shape.Idx.first hu), constantI S_ 32 0#32 (Shape.Idx.first hu))
      = ((⊥ : EReal), 0#32) := Prod.ext ofBits_bot rfl
  rw [h0]
  refine better.isFirst hn hn' _ _ fun p => ?_
  unfold Host.argReduceFiber
  simp only [List.mem_map, List.mem_filter, List.mem_finRange, true_and, decide_eq_true_eq]
  constructor
  · rintro ⟨m, hm, rfl⟩
    obtain ⟨k, hk⟩ := (h.fiber_r2_a1 (ix1 r) _).1 hm
    refine ⟨k, ?_⟩
    rw [← hk]
    rfl
  · rintro ⟨k, rfl⟩
    refine ⟨(⟨2, ![8192, n]⟩ : Shape).rowMajor (ix2 r k), ?_, ?_⟩
    · rw [Equiv.symm_apply_apply]
      exact (h.fiber_r2_a1 (ix1 r) _).2 ⟨k, rfl⟩
    · rw [Equiv.symm_apply_apply]
      rfl

theorem argmax15_apply (x : FVec Ideal S8192x15 .f32) (r : Fin 8192) :
    ∃ i, IsFirst (fun k => x (ix2 r k)) i ∧ argmax15 x (ix1 r) = BitVec.ofNat 32 i :=
  argmax_apply (by decide) (by decide) x _ _ r

theorem argmax20_apply (x : FVec Ideal S8192x20 .f32) (r : Fin 8192) :
    ∃ i, IsFirst (fun k => x (ix2 r k)) i ∧ argmax20 x (ix1 r) = BitVec.ofNat 32 i :=
  argmax_apply (by decide) (by decide) x _ _ r

/-- A gather along the rows of a matrix reads each row at its start index, clamped. -/
theorem gather_row {α : Type} {n : ℕ} (hn : 0 < n) (d : GatherDims ⟨2, ![8192, n]⟩ S8192x1x1 S8192x1)
    (ho : d.offsetDims = []) (hc : d.collapsedSliceDims = [1]) (hb : d.operandBatchingDims = [0]) (hs : d.startIndicesBatchingDims = [0])
    (hm : d.startIndexMap = [1]) (hi : d.indexVectorDim = 2) (hz : d.sliceSizes = ![1, 1])
    (x : (⟨2, ![8192, n]⟩ : Shape).Idx → α) (s : IVec S8192x1x1 32) (r : Fin 8192) :
    Host.gather d x s (ix2 r 0) = x (ix2 r ⟨min (s (ix3 r 0 0)).toInt.toNat (n - 1), by omega⟩) := by
  obtain ⟨od, cd, bd, sbd, sim, iv, sz, wf⟩ := d
  subst ho hc hb hs hm hi hz
  unfold Host.gather
  refine congrArg x ?_
  funext a
  refine Fin.ext ?_
  match a with
  | ⟨0, _⟩ =>
    show GatherDims.start (s := ⟨2, ![8192, n]⟩) _ _ _ (0 : Fin 2) + GatherDims.batchCoord (s := ⟨2, ![8192, n]⟩) _ _ (0 : Fin 2) + GatherDims.offCoord (s := ⟨2, ![8192, n]⟩) _ _ (0 : Fin 2) = r.val
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.mpr rfl)]
    rfl
  | ⟨1, _⟩ =>
    show GatherDims.start (s := ⟨2, ![8192, n]⟩) _ _ _ (1 : Fin 2) + GatherDims.batchCoord (s := ⟨2, ![8192, n]⟩) _ _ (1 : Fin 2) + GatherDims.offCoord (s := ⟨2, ![8192, n]⟩) _ _ (1 : Fin 2) = _
    rw [GatherDims.batchCoord_eq_zero _ _ _ (fun h => by simp at h),
      GatherDims.offCoord_eq_zero _ _ _ (fun h => ((GatherDims.mem_sKept _ _).mp h).1 (List.mem_singleton.mpr rfl)), Nat.add_zero]
    unfold GatherDims.start
    rw [dif_pos (List.mem_singleton.mpr rfl)]
    refine congrArg (fun q => min (s q).toInt.toNat (n - 1)) ?_
    funext b
    match b with
    | ⟨0, _⟩ => rfl
    | ⟨1, _⟩ => rfl
    | ⟨2, _⟩ => rfl

/-- The gather of the selected latent rows reads position `p` of row `q`, both clamped. -/
theorem gather_latent (x : FVec Ideal S15x8192x512 .f32) (s : IVec S8192x2 32) (r : Fin 8192) (k : Fin 512) :
    Host.gather gather_S15x8192x512_S8192x2_S8192x512_1_01_n_n_01_1_11512 x s (ix2 r k)
      = x (ix3 ⟨min (s (ix2 r 0)).toInt.toNat 14, by omega⟩ ⟨min (s (ix2 r 1)).toInt.toNat 8191, by omega⟩ k) := by
  unfold Host.gather
  refine congrArg x ?_
  funext a
  refine Fin.ext ?_
  match a with
  | ⟨0, _⟩ =>
    show GatherDims.start (s := S15x8192x512) _ _ _ (0 : Fin 3) + GatherDims.batchCoord (s := S15x8192x512) _ _ (0 : Fin 3) + GatherDims.offCoord (s := S15x8192x512) _ _ (0 : Fin 3) = _
    rw [GatherDims.batchCoord_eq_zero _ _ _ (by decide), GatherDims.offCoord_eq_zero _ _ _ (by decide), Nat.add_zero]
    unfold GatherDims.start
    rw [dif_pos (by decide)]
    refine congrArg (fun q => min (s q).toInt.toNat 14) ?_
    funext b
    match b with
    | ⟨0, _⟩ => rfl
    | ⟨1, _⟩ => rfl
  | ⟨1, _⟩ =>
    show GatherDims.start (s := S15x8192x512) _ _ _ (1 : Fin 3) + GatherDims.batchCoord (s := S15x8192x512) _ _ (1 : Fin 3) + GatherDims.offCoord (s := S15x8192x512) _ _ (1 : Fin 3) = _
    rw [GatherDims.batchCoord_eq_zero _ _ _ (by decide), GatherDims.offCoord_eq_zero _ _ _ (by decide), Nat.add_zero]
    unfold GatherDims.start
    rw [dif_pos (by decide)]
    refine congrArg (fun q => min (s q).toInt.toNat 8191) ?_
    funext b
    match b with
    | ⟨0, _⟩ => rfl
    | ⟨1, _⟩ => rfl
  | ⟨2, _⟩ =>
    show GatherDims.start (s := S15x8192x512) _ _ _ (2 : Fin 3) + GatherDims.batchCoord (s := S15x8192x512) _ _ (2 : Fin 3) + GatherDims.offCoord (s := S15x8192x512) _ _ (2 : Fin 3) = k.val
    rw [GatherDims.batchCoord_eq_zero _ _ _ (by decide)]
    unfold GatherDims.start
    rw [dif_neg (by decide), Nat.zero_add]
    unfold GatherDims.offCoord
    rw [dif_pos (by decide)]
    rfl

/-- An update of the scatter lands at the entry that its two words, read signed, name. -/
theorem lands (s : IVec S8192x2 32) (q : S8192.Idx) (r : Fin 8192) (a : Fin 20) :
    scatter_S8192x20_S8192x2_S8192_n_01_01_1.resultIdx? q s = some (ix2 r a)
      ↔ (s (ix2 (q 0) 0)).toInt = r.val ∧ (s (ix2 (q 0) 1)).toInt = a.val := by
  have h0 : scatter_S8192x20_S8192x2_S8192_n_01_01_1.start q s (0 : Fin 2) = (s (ix2 (q 0) 0)).toInt := by
    unfold ScatterDims.start
    rw [dif_pos (by decide)]
    refine congrArg (fun q => (s q).toInt) ?_
    funext b
    match b with
    | ⟨0, _⟩ => rfl
    | ⟨1, _⟩ => rfl
  have h1 : scatter_S8192x20_S8192x2_S8192_n_01_01_1.start q s (1 : Fin 2) = (s (ix2 (q 0) 1)).toInt := by
    unfold ScatterDims.start
    rw [dif_pos (by decide)]
    refine congrArg (fun q => (s q).toInt) ?_
    funext b
    match b with
    | ⟨0, _⟩ => rfl
    | ⟨1, _⟩ => rfl
  have w : ∀ b : Fin 2, scatter_S8192x20_S8192x2_S8192_n_01_01_1.window q b = 0 := by
    intro b
    unfold ScatterDims.window
    rw [dif_neg]
    revert b
    decide
  unfold ScatterDims.resultIdx?
  constructor
  · intro h
    split at h
    · rename_i hh
      have e := Option.some.inj h
      have e0 := congrArg Fin.val (congrFun e (0 : Fin 2))
      have e1 := congrArg Fin.val (congrFun e (1 : Fin 2))
      have g0 := hh (0 : Fin 2)
      have g1 := hh (1 : Fin 2)
      simp only [h0, h1, w] at e0 e1 g0 g1
      have e0' : ((s (ix2 (q 0) 0)).toInt + (0 : ℕ)).toNat = r.val := e0
      have e1' : ((s (ix2 (q 0) 1)).toInt + (0 : ℕ)).toNat = a.val := e1
      omega
    · exact nomatch h
  · rintro ⟨e0, e1⟩
    have hh : ∀ b : Fin 2, 0 ≤ scatter_S8192x20_S8192x2_S8192_n_01_01_1.start q s b + scatter_S8192x20_S8192x2_S8192_n_01_01_1.window q b
        ∧ scatter_S8192x20_S8192x2_S8192_n_01_01_1.start q s b + scatter_S8192x20_S8192x2_S8192_n_01_01_1.window q b < S8192x20.size b := by
      intro b
      match b with
      | ⟨0, _⟩ =>
        show 0 ≤ scatter_S8192x20_S8192x2_S8192_n_01_01_1.start q s (0 : Fin 2) + scatter_S8192x20_S8192x2_S8192_n_01_01_1.window q (0 : Fin 2)
          ∧ scatter_S8192x20_S8192x2_S8192_n_01_01_1.start q s (0 : Fin 2) + scatter_S8192x20_S8192x2_S8192_n_01_01_1.window q (0 : Fin 2) < (8192 : ℕ)
        rw [h0, w, e0]; omega
      | ⟨1, _⟩ =>
        show 0 ≤ scatter_S8192x20_S8192x2_S8192_n_01_01_1.start q s (1 : Fin 2) + scatter_S8192x20_S8192x2_S8192_n_01_01_1.window q (1 : Fin 2)
          ∧ scatter_S8192x20_S8192x2_S8192_n_01_01_1.start q s (1 : Fin 2) + scatter_S8192x20_S8192x2_S8192_n_01_01_1.window q (1 : Fin 2) < (20 : ℕ)
        rw [h1, w, e1]; omega
    rw [dif_pos hh]
    refine congrArg some (funext fun b => Fin.ext ?_)
    match b with
    | ⟨0, _⟩ =>
      show (scatter_S8192x20_S8192x2_S8192_n_01_01_1.start q s (0 : Fin 2) + scatter_S8192x20_S8192x2_S8192_n_01_01_1.window q (0 : Fin 2)).toNat = r.val
      rw [h0, w, e0]; omega
    | ⟨1, _⟩ =>
      show (scatter_S8192x20_S8192x2_S8192_n_01_01_1.start q s (1 : Fin 2) + scatter_S8192x20_S8192x2_S8192_n_01_01_1.window q (1 : Fin 2)).toNat = a.val
      rw [h1, w, e1]; omega

/-- A word that counts is not below zero. -/
theorem slt_zero {k : ℕ} (h : k < 2 ^ 31) : IntOp.cmpi .slt (BitVec.ofNat 32 k) 0#32 = 0#1 := by
  unfold IntOp.cmpi
  rw [BitVec.slt_eq_decide, toInt_ofNat h]
  have : ¬ ((k : ℕ) : ℤ) < (0#32 : BitVec 32).toInt := by simp
  rw [decide_eq_false this]
  rfl

theorem starts_apply (n : BitVec 32) (i : IVec S8192 32) (r : Fin 8192) {k : ℕ} (hk : k < 2 ^ 31) (hi : i (ix1 r) = BitVec.ofNat 32 k) :
    starts n i (ix3 r 0 0) = BitVec.ofNat 32 k := by
  unfold starts column colWords
  pointwise
  rw [hi, slt_zero hk, select_zero]

theorem inside_apply (n : BitVec 32) {last : ℕ} (hl : last < 2 ^ 31) (i : IVec S8192 32) (r : Fin 8192) {k : ℕ} (hk : k ≤ last)
    (hi : i (ix1 r) = BitVec.ofNat 32 k) : inside n (BitVec.ofNat 32 last) i (ix2 r 0) = 1#1 := by
  have hs := starts_apply n i r (by omega) hi
  unfold inside
  generalize starts n i = s at hs
  pointwise
  have e : ∀ x : Fin 1, IntOp.andi (IntOp.cmpi .sge (s (ix3 r 0 x)) 0#32) (IntOp.cmpi .sle (s (ix3 r 0 x)) (BitVec.ofNat 32 last)) = 1#1 := by
    intro x
    obtain rfl := Subsingleton.elim x 0
    rw [hs]
    have a : (0#32 : BitVec 32).sle (BitVec.ofNat 32 k) = true := by
      rw [BitVec.sle_eq_decide, toInt_ofNat (k := k) (by omega)]
      exact decide_eq_true (by show (0 : ℤ) ≤ k; omega)
    have b : (BitVec.ofNat 32 k).sle (BitVec.ofNat 32 last) = true := by
      rw [BitVec.sle_eq_decide, toInt_ofNat (by omega), toInt_ofNat hl]
      exact decide_eq_true (by omega)
    show IntOp.andi (BitVec.ofBool ((0#32 : BitVec 32).sle (BitVec.ofNat 32 k))) (BitVec.ofBool ((BitVec.ofNat 32 k).sle (BitVec.ofNat 32 last))) = 1#1
    rw [a, b]
    rfl
  rw [Finset.univ_unique, Finset.fold_singleton, e]
  rfl

/-- A start index in range is not clamped. -/
theorem clamped {k last : ℕ} (hl : last < 2 ^ 31) (hk : k ≤ last) : min (BitVec.ofNat 32 k).toInt.toNat last = k := by
  rw [toInt_ofNat (by omega)]
  omega

theorem take15_apply (x : FVec Ideal S8192x15 .f32) (i : IVec S8192 32) (r : Fin 8192) (k : Fin 15) (hi : i (ix1 r) = BitVec.ofNat 32 k) :
    take15 x i (ix1 r) = x (ix2 r k) := by
  have hs := starts_apply 15#32 i r (by omega) hi
  have hd := inside_apply 15#32 (last := 14) (by omega) i r (by omega) hi
  unfold take15
  generalize starts 15#32 i = s at hs ⊢
  generalize inside 15#32 14#32 i = s' at hd ⊢
  pointwise
  rw [hd, select_one, gather_row (by omega) _ rfl rfl rfl rfl rfl rfl rfl]
  refine congrArg (fun q => x (ix2 r q)) (Fin.ext ?_)
  show min (s (ix3 r 0 0)).toInt.toNat 14 = k.val
  rw [hs, clamped (by omega) (by omega)]

theorem takeWord15_apply (x : IVec S8192x15 32) (i : IVec S8192 32) (r : Fin 8192) (k : Fin 15) (hi : i (ix1 r) = BitVec.ofNat 32 k) :
    takeWord15 x i (ix1 r) = x (ix2 r k) := by
  have hs := starts_apply 15#32 i r (by omega) hi
  have hd := inside_apply 15#32 (last := 14) (by omega) i r (by omega) hi
  unfold takeWord15
  generalize starts 15#32 i = s at hs ⊢
  generalize inside 15#32 14#32 i = s' at hd ⊢
  pointwise
  rw [hd, select_one, gather_row (by omega) _ rfl rfl rfl rfl rfl rfl rfl]
  refine congrArg (fun q => x (ix2 r q)) (Fin.ext ?_)
  show min (s (ix3 r 0 0)).toInt.toNat 14 = k.val
  rw [hs, clamped (by omega) (by omega)]

theorem take20_apply (x : FVec Ideal S8192x20 .f32) (i : IVec S8192 32) (r : Fin 8192) (k : Fin 20) (hi : i (ix1 r) = BitVec.ofNat 32 k) :
    take20 x i (ix1 r) = x (ix2 r k) := by
  have hs := starts_apply 20#32 i r (by omega) hi
  have hd := inside_apply 20#32 (last := 19) (by omega) i r (by omega) hi
  unfold take20
  generalize starts 20#32 i = s at hs ⊢
  generalize inside 20#32 19#32 i = s' at hd ⊢
  pointwise
  rw [hd, select_one, gather_row (by omega) _ rfl rfl rfl rfl rfl rfl rfl]
  refine congrArg (fun q => x (ix2 r q)) (Fin.ext ?_)
  show min (s (ix3 r 0 0)).toInt.toNat 19 = k.val
  rw [hs, clamped (by omega) (by omega)]

theorem wrap_apply (n : BitVec 32) (i : IVec S8192 32) (r : Fin 8192) {k : ℕ} (hk : k < 2 ^ 31) (hi : i (ix1 r) = BitVec.ofNat 32 k) :
    wrap n i (ix1 r) = BitVec.ofNat 32 k := by
  unfold wrap words
  pointwise
  rw [hi, slt_zero hk, select_zero]

theorem pairs_left (a b : IVec S8192 32) (r : Fin 8192) : pairs a b (ix2 r 0) = a (ix1 r) := by
  unfold pairs sideBySide column
  pointwise

theorem pairs_right (a b : IVec S8192 32) (r : Fin 8192) : pairs a b (ix2 r 1) = b (ix1 r) := by
  unfold pairs sideBySide column
  pointwise

theorem latentRows_apply (lat : FVec Ideal S15x8192x512 .f32) (i : IVec S8192 32) (r : Fin 8192) (k : Fin 15)
    (hi : i (ix1 r) = BitVec.ofNat 32 k) (d : Fin 512) : latentRows lat i (ix2 r d) = lat (ix3 k r d) := by
  unfold latentRows
  rw [gather_latent]
  have h0 : min (pairs (wrap 15#32 i) (wrap 8192#32 rowNumbers) (ix2 r 0)).toInt.toNat 14 = k.val := by
    rw [pairs_left, wrap_apply 15#32 i r (by omega) hi, clamped (by omega) (by omega)]
  have h1 : min (pairs (wrap 15#32 i) (wrap 8192#32 rowNumbers) (ix2 r 1)).toInt.toNat 8191 = r.val := by
    rw [pairs_right, wrap_apply 8192#32 rowNumbers r (k := r.val) (by omega) rfl, clamped (by omega) (by omega)]
  exact congrArg₂ (fun p q => lat (ix3 p q d)) (Fin.ext h0) (Fin.ext h1)

theorem maskedAmino_apply (x : FVec Ideal S8192x20 .f32) (i : IVec S8192 32) (r : Fin 8192) (a : Fin 20) {k : ℕ} (hk : k < 2 ^ 31)
    (hi : i (ix1 r) = BitVec.ofNat 32 k) : maskedAmino x i (ix2 r a) = if a.val = k then ⊥ else x (ix2 r a) := by
  have hs : ∀ q : Fin 8192, (pairs (wrap 8192#32 rowNumbers) (wrap 20#32 i) (ix2 q 0)).toInt = q.val := fun q => by
    rw [pairs_left, wrap_apply 8192#32 rowNumbers q (k := q.val) (by omega) rfl, toInt_ofNat (by omega)]
  have hs' : (pairs (wrap 8192#32 rowNumbers) (wrap 20#32 i) (ix2 r 1)).toInt = k := by
    rw [pairs_right, wrap_apply 20#32 i r hk hi, toInt_ofNat hk]
  unfold maskedAmino
  generalize pairs (wrap 8192#32 rowNumbers) (wrap 20#32 i) = s at hs hs' ⊢
  by_cases e : a.val = k
  · subst e
    rw [if_pos rfl]
    refine Idealize.ShloMosaic.Routing.scatter_set_hit _ _ _ _ _ _ (fun q _ => ?_) (ix1 r) ((lands _ _ _ _).2 ⟨hs r, hs'⟩)
    exact ofBits_bot
  · rw [if_neg e]
    refine Idealize.ShloMosaic.Routing.scatter_set_miss _ _ _ _ _ fun q hq => e ?_
    obtain ⟨e0, e1⟩ := (lands _ _ _ _).1 hq
    have e0' := (hs (q 0)).symm.trans e0
    have e2 : q 0 = r := Fin.ext (by exact_mod_cast e0')
    have e1' : (s (ix2 r 1)).toInt = a.val := by rw [← e2]; exact e1
    exact_mod_cast e1'.symm.trans hs'

theorem logSoftmax15_apply (x : FVec Ideal S8192x15 .f32) (r : Fin 8192) (k : Fin 15) :
    logSoftmax15 x (ix2 r k) = logSoftmax (fun k => x (ix2 r k)) k := by
  unfold logSoftmax15 shifted15
  pointwise
  rw [ofBits_bot, fold_max, max_eq_right bot_le]
  unfold logSoftmax
  rfl

theorem logSoftmax20_apply (x : FVec Ideal S8192x20 .f32) (r : Fin 8192) (k : Fin 20) :
    logSoftmax20 x (ix2 r k) = logSoftmax (fun k => x (ix2 r k)) k := by
  unfold logSoftmax20 shifted20
  pointwise
  rw [ofBits_bot, fold_max, max_eq_right bot_le]
  unfold logSoftmax
  rfl

section row

variable (lat : FVec Ideal S15x8192x512 .f32) (pep : IVec S8192x15 32) (len : IVec S8192 32) (wp : FVec Ideal S512x1 .f32)
  (bp : FVec Ideal S1 .f32) (wa : FVec Ideal S512x20 .f32) (ba : FVec Ideal S20 .f32) (g1 : FVec Ideal S8192x15 .f32)
  (g2 : FVec Ideal S8192x20 .f32)

theorem posLogits_apply (hp : bp (ix1 0) = 0) (r : Fin 8192) (l : Fin 15) :
    posLogits lat len wp bp (ix2 r l) = posRow (fun l d => lat (ix3 l r d)) (len (ix1 r)) (fun d => wp (ix2 d 0)) l := by
  unfold posLogits
  pointwise
  rw [hp, add_zero, ofBits_bot]
  rfl

theorem aminoLogits_apply (ha : ∀ a, ba (ix1 a) = 0) (i : IVec S8192 32) (r : Fin 8192) (k : Fin 15)
    (hi : i (ix1 r) = BitVec.ofNat 32 k) (a : Fin 20) :
    aminoLogits lat i wa ba (ix2 r a) = ∑ d, lat (ix3 k r d) * wa (ix2 d a) := by
  have hl := latentRows_apply lat i r k hi
  unfold aminoLogits
  generalize latentRows lat i = v at hl
  pointwise
  rw [ha, add_zero]
  exact Finset.sum_congr rfl fun d _ => by rw [hl]

/-- The reference's two results at a row: the row's draws and their log-probability. -/
theorem row (hp : bp (ix1 0) = 0) (ha : ∀ a, ba (ix1 a) = 0) (r : Fin 8192)
    (hq : ∀ l, ∃ k : ℕ, k + 1 < 2 ^ 31 ∧ pep (ix2 r l) = BitVec.ofNat 32 (k + 1)) :
    ∃ i a, Drawn (fun l d => lat (ix3 l r d)) (fun l => pep (ix2 r l)) (len (ix1 r)) (fun d => wp (ix2 d 0)) (fun d b => wa (ix2 d b))
        (fun l => g1 (ix2 r l)) (fun b => g2 (ix2 r b)) i a ∧
      action lat pep len wp bp wa ba g1 g2 (ix2 r 0) = BitVec.ofNat 32 i ∧
      action lat pep len wp bp wa ba g1 g2 (ix2 r 1) = BitVec.ofNat 32 (a + 1) ∧
      logProb lat pep len wp bp wa ba g1 g2 (ix1 r)
        = Row.logProb (fun l d => lat (ix3 l r d)) (fun l => pep (ix2 r l)) (len (ix1 r)) (fun d => wp (ix2 d 0)) (fun d b => wa (ix2 d b)) i a := by
  have hpos := posLogits_apply lat len wp bp hp r
  obtain ⟨i, hi, ei⟩ := argmax15_apply (addf g1 (posLogits lat len wp bp)) r
  have hi' : IsFirst (fun l => g1 (ix2 r l) + posRow (fun l d => lat (ix3 l r d)) (len (ix1 r)) (fun d => wp (ix2 d 0)) l) i := by
    have : (fun l => addf g1 (posLogits lat len wp bp) (ix2 r l))
        = fun l => g1 (ix2 r l) + posRow (fun l d => lat (ix3 l r d)) (len (ix1 r)) (fun d => wp (ix2 d 0)) l :=
      funext fun l => congrArg (g1 (ix2 r l) + ·) (hpos l)
    rw [← this]; exact hi
  have ei' : position lat len wp bp g1 (ix1 r) = BitVec.ofNat 32 i := ei
  obtain ⟨k, hk', hk⟩ := hq i
  have hm : subi (takeWord15 pep (position lat len wp bp g1)) (words 1#32) (ix1 r) = BitVec.ofNat 32 k := by
    have : takeWord15 pep (position lat len wp bp g1) (ix1 r) - 1#32 = BitVec.ofNat 32 k := by
      rw [takeWord15_apply pep _ r i ei', hk]
      apply BitVec.eq_of_toNat_eq
      simp [BitVec.toNat_sub, BitVec.toNat_ofNat]
      omega
    exact this
  have hrow : (fun b => aminoRow lat pep len wp bp wa ba g1 (ix2 r b))
      = Row.aminoRow (fun d => lat (ix3 i r d)) (fun d b => wa (ix2 d b)) (pep (ix2 r i)) := by
    funext b
    unfold aminoRow Row.aminoRow
    rw [maskedAmino_apply _ _ r b (by omega) hm, aminoLogits_apply lat wa ba ha _ r i ei', hk]
    by_cases e : b.val = k
    · rw [if_pos e, if_pos (by rw [e])]
    · rw [if_neg e, if_neg]
      rw [ofNat_inj (by omega) (by omega)]
      exact fun q => e (by omega)
  obtain ⟨a, h2, e2⟩ := argmax20_apply (addf g2 (aminoRow lat pep len wp bp wa ba g1)) r
  have e2' : amino lat pep len wp bp wa ba g1 g2 (ix1 r) = BitVec.ofNat 32 a := e2
  have h2' : IsFirst (fun b => g2 (ix2 r b) + Row.aminoRow (fun d => lat (ix3 i r d)) (fun d b => wa (ix2 d b)) (pep (ix2 r i)) b) a := by
    rw [← hrow]; exact h2
  refine ⟨i, a, ⟨hi', h2'⟩, ?_, ?_, ?_⟩
  · unfold action
    rw [pairs_left, ei']
  · unfold action
    rw [pairs_right]
    have : amino lat pep len wp bp wa ba g1 g2 (ix1 r) + 1#32 = BitVec.ofNat 32 (a + 1) := by
      rw [e2']; exact (BitVec.ofNat_add _ _).symm
    exact this
  · have : take15 (logSoftmax15 (posLogits lat len wp bp)) (position lat len wp bp g1) (ix1 r)
          + take20 (logSoftmax20 (aminoRow lat pep len wp bp wa ba g1)) (amino lat pep len wp bp wa ba g1 g2) (ix1 r)
        = Row.logProb (fun l d => lat (ix3 l r d)) (fun l => pep (ix2 r l)) (len (ix1 r)) (fun d => wp (ix2 d 0)) (fun d b => wa (ix2 d b)) i a := by
      rw [take15_apply _ _ r i ei', take20_apply _ _ r a e2', logSoftmax15_apply, logSoftmax20_apply, hrow, funext hpos]
      rfl
    exact this

end row

end Cert.Proof.Ref

end
-- ==== Proof.Pre.lean ====
/- The precondition read entry by entry: amino numbers from one, zero biases, finite latents and amino weights, amino noise above -∞. -/
module

public import proofs.«01_k».proof.Pre_drawn
public import proofs.«01_k».proof.Proof.Row
public import Idealize.ShloMosaic.Lib.ReduceAll
public import Idealize.ShloMosaic.Lib.Pointwise

@[expose] public section

noncomputable section

namespace Cert.Proof.Pre

open Idealize.ShloMosaic Cert.Pre_drawn Cert.Proof.Row

variable [Facts]

instance : Subsingleton S_.Idx := ⟨fun a b => funext fun k => nomatch k⟩

theorem andi_split {a b : IVec S_ 1} {j : S_.Idx} (h : andi a b j = 1#1) : a j = 1#1 ∧ b j = 1#1 := IntOp.andi_eq_one.1 h

theorem ofBits_top : Ideal.ofBits .f32 0x7F800000#32 = ⊤ := by
  simp [Ideal.ofBits, Ideal.ieee]

theorem ofBits_zero : Ideal.ofBits .f32 0x00000000#32 = 0 := by
  simp [Ideal.ofBits, Ideal.ieee]

/-- A word from 1 up, read signed, is the successor of a number. -/
theorem word_pos {w : BitVec 32} (h : IntOp.cmpi .sge w 1#32 = 1#1) : ∃ k : ℕ, k + 1 < 2 ^ 31 ∧ w = BitVec.ofNat 32 (k + 1) := by
  have h' : (1#32 : BitVec 32).sle w = true := by
    by_contra e
    have : IntOp.cmpi .sge w 1#32 = BitVec.ofBool ((1#32 : BitVec 32).sle w) := rfl
    rw [this, Bool.eq_false_iff.2 e] at h
    exact absurd h (by decide)
  rw [BitVec.sle_eq_decide, decide_eq_true_eq, (by decide : (1#32 : BitVec 32).toInt = 1)] at h'
  have hlt : w.toInt < 2 ^ 31 := w.toInt_lt
  refine ⟨w.toInt.toNat - 1, by omega, ?_⟩
  apply BitVec.toInt_inj.1
  rw [toInt_ofNat (by omega)]
  omega

/-- An entry compared equal to the zero pattern is zero. -/
theorem zero_of_cmp {x : EReal} (h : FloatOps.cmpf (F := Ideal) (φ := .f32) .oeq x (Ideal.ofBits .f32 0x00000000#32) = 1#1) : x = 0 := by
  rw [ofBits_zero] at h
  by_contra e
  simp [Ideal.cmpf_def, Ideal.cmp, e] at h

/-- An entry below +∞ in absolute value is real. -/
theorem real_of_cmp {x : EReal} (h : FloatOps.cmpf (F := Ideal) (φ := .f32) .olt (max x (-x)) (Ideal.ofBits .f32 0x7F800000#32) = 1#1) :
    ∃ r : ℝ, x = r := by
  rw [ofBits_top] at h
  apply real_of_abs_lt
  by_contra e
  simp [Ideal.cmpf_def, Ideal.cmp, e] at h

/-- An entry above the pattern of -∞ is not -∞. -/
theorem ne_bot_of_cmp {x : EReal} (h : FloatOps.cmpf (F := Ideal) (φ := .f32) .ogt x (Ideal.ofBits .f32 0xFF800000#32) = 1#1) : x ≠ ⊥ := by
  rintro rfl
  simp [Ideal.cmpf_def, Ideal.cmp] at h

variable (a0 : FVec Ideal S15x8192x512 .f32) (a1 : FVec Ideal S8192x512 .f32) (a2 : IVec S8192x15 32) (a3 a4 : IVec S8192 32)
  (a5 : FVec Ideal S512x1 .f32) (a6 : FVec Ideal S1 .f32) (a7 : FVec Ideal S512x20 .f32) (a8 : FVec Ideal S20 .f32)
  (a9 : FVec Ideal S8192x15 .f32) (a10 : FVec Ideal S8192x20 .f32)

/-- What the precondition says of each argument it reads. -/
theorem holds (h : fn (F := Ideal) a0 a1 a2 a3 a4 a5 a6 a7 a8 a9 a10 = fun _ => 1#1) :
    (∀ i, ∃ k : ℕ, k + 1 < 2 ^ 31 ∧ a2 i = BitVec.ofNat 32 (k + 1)) ∧ (∀ i, a6 i = 0) ∧ (∀ i, a8 i = 0)
      ∧ (∀ i, ∃ r : ℝ, a0 i = r) ∧ (∀ i, ∃ r : ℝ, a7 i = r) ∧ (∀ i, a10 i ≠ ⊥) := by
  have h0 := congrFun h (Shape.Idx.first Facts.h_S_)
  unfold fn fn_part1 at h0
  obtain ⟨h0, q10⟩ := andi_split h0
  obtain ⟨h0, q7⟩ := andi_split h0
  obtain ⟨h0, q0⟩ := andi_split h0
  obtain ⟨h0, q8⟩ := andi_split h0
  obtain ⟨q2, q6⟩ := andi_split h0
  refine ⟨fun i => word_pos ?_, fun i => zero_of_cmp ?_, fun i => zero_of_cmp ?_, fun i => real_of_cmp ?_, fun i => real_of_cmp ?_, fun i => ne_bot_of_cmp ?_⟩
  · exact Host.reduce_andi_all _ _ _ _ _ q2 i
  · exact Host.reduce_andi_all _ _ _ _ _ q6 i
  · exact Host.reduce_andi_all _ _ _ _ _ q8 i
  · exact Host.reduce_andi_all _ _ _ _ _ q0 i
  · exact Host.reduce_andi_all _ _ _ _ _ q7 i
  · exact Host.reduce_andi_all _ _ _ _ _ q10 i

end Cert.Proof.Pre

end
-- ==== Proof.Algebraic.lean ====
/- The kernel's two arrays after its run are the reference's two results, so the two runs end equal. -/
module

public import proofs.«01_k».proof.Defs
public import proofs.«01_k».proof.Proof.KerArr
public import proofs.«01_k».proof.Proof.RefRow
public import proofs.«01_k».proof.Proof.RefRun
public import proofs.«01_k».proof.Proof.Pre
public import proofs.«01_k».proof.Proof.Gen.Pre_drawn

@[expose] public section

noncomputable section

namespace Cert.Proof

open Idealize.ShloMosaic Idealize.ShloMosaic.TcCoe Idealize.SL.Sem Cert.KernelIdeal Cert.KernelIdeal.Gen Cert.Proof.Row

variable (m : (ℓ : Loc nD τ sig) → Buf (Elt Ideal) ℓ) (c : Dev nD)

/-- The reference's actions, of the kernel's arguments. -/
def actionOf : S8192x2.Idx → BitVec 32 :=
  Ref.action (m ((c : Thread nD τ).loc main_arg0)) (m ((c : Thread nD τ).loc main_arg2)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The reference's log-probabilities, of the kernel's arguments. -/
def logProbOf : S8192.Idx → EReal :=
  Ref.logProb (m ((c : Thread nD τ).loc main_arg0)) (m ((c : Thread nD τ).loc main_arg2)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

variable (hp : Pre_KernelIdeal_drawn m)

include hp in
/-- What a grid point stores in a row is the reference's row. -/
theorem blocks (t : Fin cfg0.N) (r : Fin 512) :
    (∀ d : Fin 2, out0_7 (F := Ideal) (iblk m c 0 t) (iblk m c 1 t) (iblk m c 2 t) (iblk m c 3 t) (iblk m c 4 t) (iblk m c 5 t)
      (iblk m c 6 t) (ix2 r d) = actionOf m c (ix2 (Ker.blkRow t r) d)) ∧
    out0_8 (F := Ideal) (iblk m c 0 t) (iblk m c 1 t) (iblk m c 2 t) (iblk m c 3 t) (iblk m c 4 t) (iblk m c 5 t)
      (iblk m c 6 t) (ix1 r) = logProbOf m c (ix1 (Ker.blkRow t r)) := by
  obtain ⟨q2, q6, q8, q0, q7, q10⟩ := Pre.holds _ _ _ _ _ _ _ _ _ _ _ (hp c)
  obtain ⟨i, a, h, e0, e1, e2⟩ := Ref.row (m ((c : Thread nD τ).loc main_arg0)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (q6 _) (fun _ => q8 _) (Ker.blkRow t r) (fun _ => q2 _)
  have hb := h.ne_bot (fun _ _ => q0 _) (fun _ _ => q7 _) (fun _ => q10 _)
  obtain ⟨f0, f1, f2⟩ := Ker.row (iblk m c 0 t) (iblk m c 1 t) (iblk m c 2 t) (iblk m c 3 t) (iblk m c 4 t) (iblk m c 5 t)
    (iblk m c 6 t) r _ (fun b => Ker.blk4 m c t r b) (i := i) (a := a)
    (by simp only [Ker.blk0, Ker.blk1, Ker.blk2, Ker.blk3, Ker.blk5, Ker.blk6]; exact h)
    (by simp only [Ker.blk0, Ker.blk1, Ker.blk6]; exact hb)
  simp only [Ker.blk0, Ker.blk1, Ker.blk2, Ker.blk5, Ker.blk6] at f2
  refine ⟨fun d => ?_, f2.trans e2.symm⟩
  match d with
  | ⟨0, _⟩ => exact f0.trans e0.symm
  | ⟨1, _⟩ => exact f1.trans e1.symm

/-- From equal arguments in the precondition's range, the kernel and the reference end with equal results. -/
theorem algebraic : Cert.algebraic_KernelIdeal_ReferenceIdeal_pre_drawn := by
  intro m g m' g' hp hm
  refine ⟨actionOf m, logProbOf m, (θ_run _ _ _).mono (fun r h c => ?_) (Cert.KernelIdeal.Value.run_blocks m g),
    (θ_run _ _ _).mono (fun r h c => ?_) (Ref.run m' g')⟩
  · obtain ⟨h0, h1, rest⟩ := h c
    exact ⟨h0.trans (Ker.arr7 m c _ fun t r => (blocks m c hp t r).1), h1.trans (Ker.arr8 m c _ fun t r => (blocks m c hp t r).2), rest⟩
  · obtain ⟨h0, h1, rest⟩ := h c
    obtain ⟨a0, -, a2, -, a4, a5, a6, a7, a8, a9, a10⟩ := hm c
    refine ⟨h0.trans ?_, h1.trans ?_, rest⟩
    · rw [a0, a2, a4, a5, a6, a7, a8, a9, a10]; rfl
    · rw [a0, a2, a4, a5, a6, a7, a8, a9, a10]; rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_drawn
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ,
    fun m ρ _ => Cert.KernelIdeal.Gen.frame m ρ,
    fun m ρ _ => Cert.KernelIdeal.Gen.frame m ρ,
    fun m ρ _ => Ref.frame m ρ,
    fun m ρ _ => Ref.frame m ρ,
    IdealRules.named_const.statement _ _ _ _ _ rfl,
    algebraic⟩

end Cert.Proof

end
